-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_biases [hPre_no_biases : Cert.Pre_no_biases.Facts] (m : (ℓ : Loc Cert.KernelIdeal.nD Cert.KernelIdeal.τ Cert.KernelIdeal.sig) → Buf (Elt Ideal) ℓ) : Prop :=
  ∀ c : Dev Cert.KernelIdeal.nD,
    (Cert.Pre_no_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_no_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_no_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_no_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_no_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_no_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_no_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_no_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2 = (fun _ => 1#1)

def Pre_KernelIdeal_no_biases_and_finite [hPre_no_biases_and_finite : Cert.Pre_no_biases_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.1 = (fun _ => 1#1)
    ∧ (Cert.Pre_no_biases_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_biases [hPre_no_biases : Cert.Pre_no_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_no_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_no_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_no_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_no_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_no_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_no_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_no_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2 = (fun _ => 1#1)

def Pre_ReferenceIdeal_no_biases_and_finite [hPre_no_biases_and_finite : Cert.Pre_no_biases_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.1 = (fun _ => 1#1)
    ∧ (Cert.Pre_no_biases_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_no_biases [hKernelIdeal : Cert.KernelIdeal.Facts] [hPre_no_biases : Cert.Pre_no_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_no_biases_and_finite [hKernelIdeal : Cert.KernelIdeal.Facts] [hPre_no_biases_and_finite : Cert.Pre_no_biases_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_biases_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_no_biases [hReferenceIdeal : Cert.ReferenceIdeal.Facts] [hPre_no_biases : Cert.Pre_no_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_no_biases_and_finite [hReferenceIdeal : Cert.ReferenceIdeal.Facts] [hPre_no_biases_and_finite : Cert.Pre_no_biases_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_biases_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_on_gate_and_mask [hKernelIdeal : Cert.KernelIdeal.Facts] [hReferenceIdeal : Cert.ReferenceIdeal.Facts] [hOn_gate_and_mask : Cert.On_gate_and_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v12_1)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 10]⟩ : Shape).Idx, (Cert.On_gate_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 i = 1#1 → r.2.mem ((c.tc : Thread Cert.KernelIdeal.nD Cert.KernelIdeal.τ).loc Cert.KernelIdeal.main_v14) i = v0 c i)
          ∧ (∀ i : (⟨1, ![4096]⟩ : Shape).Idx, (Cert.On_gate_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 i = 1#1 → r.2.mem ((c.tc : Thread Cert.KernelIdeal.nD Cert.KernelIdeal.τ).loc Cert.KernelIdeal.main_v15) i = v1 c i)
          ∧ (∀ i : (⟨1, ![4096]⟩ : Shape).Idx, (Cert.On_gate_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 i = 1#1 → r.2.mem ((c.tc : Thread Cert.KernelIdeal.nD Cert.KernelIdeal.τ).loc Cert.KernelIdeal.main_v12_1) i = v2 c i)
          ∧ (∀ i : (⟨2, ![1, 4096]⟩ : Shape).Idx, (Cert.On_gate_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 i = 1#1 → r.2.mem ((c.tc : Thread Cert.KernelIdeal.nD Cert.KernelIdeal.τ).loc Cert.KernelIdeal.main_v16) i = v3 c i)
          ∧ (∀ i : (⟨2, ![1, 4096]⟩ : Shape).Idx, (Cert.On_gate_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2 i = 1#1 → r.2.mem ((c.tc : Thread Cert.KernelIdeal.nD Cert.KernelIdeal.τ).loc Cert.KernelIdeal.main_v17) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 10]⟩ : Shape).Idx, (Cert.On_gate_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 i = 1#1 → r.2.mem ((c.tc : Thread Cert.ReferenceIdeal.nD Cert.ReferenceIdeal.τ).loc Cert.ReferenceIdeal.main_v74) i = v0 c i)
          ∧ (∀ i : (⟨1, ![4096]⟩ : Shape).Idx, (Cert.On_gate_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 i = 1#1 → r.2.mem ((c.tc : Thread Cert.ReferenceIdeal.nD Cert.ReferenceIdeal.τ).loc Cert.ReferenceIdeal.main_v55) i = v1 c i)
          ∧ (∀ i : (⟨1, ![4096]⟩ : Shape).Idx, (Cert.On_gate_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 i = 1#1 → r.2.mem ((c.tc : Thread Cert.ReferenceIdeal.nD Cert.ReferenceIdeal.τ).loc Cert.ReferenceIdeal.main_v54) i = v2 c i)
          ∧ (∀ i : (⟨2, ![1, 4096]⟩ : Shape).Idx, (Cert.On_gate_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 i = 1#1 → r.2.mem ((c.tc : Thread Cert.ReferenceIdeal.nD Cert.ReferenceIdeal.τ).loc Cert.ReferenceIdeal.main_v53) i = v3 c i)
          ∧ (∀ i : (⟨2, ![1, 4096]⟩ : Shape).Idx, (Cert.On_gate_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2 i = 1#1 → r.2.mem ((c.tc : Thread Cert.ReferenceIdeal.nD Cert.ReferenceIdeal.τ).loc Cert.ReferenceIdeal.main_v60) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def algebraic_KernelIdeal_ReferenceIdeal_on_all_but_scores_pre_no_biases [hKernelIdeal : Cert.KernelIdeal.Facts] [hReferenceIdeal : Cert.ReferenceIdeal.Facts] [hPre_no_biases : Cert.Pre_no_biases.Facts] [hOn_all_but_scores : Cert.On_all_but_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v12_1)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 10]⟩ : Shape).Idx, (Cert.On_all_but_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 i = 1#1 → r.2.mem ((c.tc : Thread Cert.KernelIdeal.nD Cert.KernelIdeal.τ).loc Cert.KernelIdeal.main_v14) i = v0 c i)
          ∧ (∀ i : (⟨1, ![4096]⟩ : Shape).Idx, (Cert.On_all_but_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 i = 1#1 → r.2.mem ((c.tc : Thread Cert.KernelIdeal.nD Cert.KernelIdeal.τ).loc Cert.KernelIdeal.main_v15) i = v1 c i)
          ∧ (∀ i : (⟨1, ![4096]⟩ : Shape).Idx, (Cert.On_all_but_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 i = 1#1 → r.2.mem ((c.tc : Thread Cert.KernelIdeal.nD Cert.KernelIdeal.τ).loc Cert.KernelIdeal.main_v12_1) i = v2 c i)
          ∧ (∀ i : (⟨2, ![1, 4096]⟩ : Shape).Idx, (Cert.On_all_but_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 i = 1#1 → r.2.mem ((c.tc : Thread Cert.KernelIdeal.nD Cert.KernelIdeal.τ).loc Cert.KernelIdeal.main_v16) i = v3 c i)
          ∧ (∀ i : (⟨2, ![1, 4096]⟩ : Shape).Idx, (Cert.On_all_but_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2 i = 1#1 → r.2.mem ((c.tc : Thread Cert.KernelIdeal.nD Cert.KernelIdeal.τ).loc Cert.KernelIdeal.main_v17) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 10]⟩ : Shape).Idx, (Cert.On_all_but_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 i = 1#1 → r.2.mem ((c.tc : Thread Cert.ReferenceIdeal.nD Cert.ReferenceIdeal.τ).loc Cert.ReferenceIdeal.main_v74) i = v0 c i)
          ∧ (∀ i : (⟨1, ![4096]⟩ : Shape).Idx, (Cert.On_all_but_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 i = 1#1 → r.2.mem ((c.tc : Thread Cert.ReferenceIdeal.nD Cert.ReferenceIdeal.τ).loc Cert.ReferenceIdeal.main_v55) i = v1 c i)
          ∧ (∀ i : (⟨1, ![4096]⟩ : Shape).Idx, (Cert.On_all_but_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 i = 1#1 → r.2.mem ((c.tc : Thread Cert.ReferenceIdeal.nD Cert.ReferenceIdeal.τ).loc Cert.ReferenceIdeal.main_v54) i = v2 c i)
          ∧ (∀ i : (⟨2, ![1, 4096]⟩ : Shape).Idx, (Cert.On_all_but_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 i = 1#1 → r.2.mem ((c.tc : Thread Cert.ReferenceIdeal.nD Cert.ReferenceIdeal.τ).loc Cert.ReferenceIdeal.main_v53) i = v3 c i)
          ∧ (∀ i : (⟨2, ![1, 4096]⟩ : Shape).Idx, (Cert.On_all_but_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2 i = 1#1 → r.2.mem ((c.tc : Thread Cert.ReferenceIdeal.nD Cert.ReferenceIdeal.τ).loc Cert.ReferenceIdeal.main_v60) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def algebraic_KernelIdeal_ReferenceIdeal_pre_no_biases_and_finite [hKernelIdeal : Cert.KernelIdeal.Facts] [hReferenceIdeal : Cert.ReferenceIdeal.Facts] [hPre_no_biases_and_finite : Cert.Pre_no_biases_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_biases_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v12_1)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v12_1) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v60) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_no_biases : Cert.Pre_no_biases.Facts) (hPre_no_biases_and_finite : Cert.Pre_no_biases_and_finite.Facts) (hOn_gate_and_mask : Cert.On_gate_and_mask.Facts) (hOn_all_but_scores : Cert.On_all_but_scores.Facts),
    quiescent_Kernel (hKernel := hKernel)
    ∧ quiescent_KernelIdeal (hKernelIdeal := hKernelIdeal)
    ∧ quiescent_KernelIdeal_pre_no_biases (hKernelIdeal := hKernelIdeal) (hPre_no_biases := hPre_no_biases)
    ∧ quiescent_KernelIdeal_pre_no_biases_and_finite (hKernelIdeal := hKernelIdeal) (hPre_no_biases_and_finite := hPre_no_biases_and_finite)
    ∧ quiescent_ReferenceIdeal (hReferenceIdeal := hReferenceIdeal)
    ∧ quiescent_ReferenceIdeal_pre_no_biases (hReferenceIdeal := hReferenceIdeal) (hPre_no_biases := hPre_no_biases)
    ∧ quiescent_ReferenceIdeal_pre_no_biases_and_finite (hReferenceIdeal := hReferenceIdeal) (hPre_no_biases_and_finite := hPre_no_biases_and_finite)
    ∧ preserves_Kernel_KernelIdeal
    ∧ algebraic_KernelIdeal_ReferenceIdeal_on_gate_and_mask (hKernelIdeal := hKernelIdeal) (hReferenceIdeal := hReferenceIdeal) (hOn_gate_and_mask := hOn_gate_and_mask)
    ∧ algebraic_KernelIdeal_ReferenceIdeal_on_all_but_scores_pre_no_biases (hKernelIdeal := hKernelIdeal) (hReferenceIdeal := hReferenceIdeal) (hPre_no_biases := hPre_no_biases) (hOn_all_but_scores := hOn_all_but_scores)
    ∧ algebraic_KernelIdeal_ReferenceIdeal_pre_no_biases_and_finite (hKernelIdeal := hKernelIdeal) (hReferenceIdeal := hReferenceIdeal) (hPre_no_biases_and_finite := hPre_no_biases_and_finite)
-- ==== On_all_but_scores.lean ====
abbrev S4096x3x32x32 : Shape := ⟨4, ![4096, 3, 32, 32]⟩
abbrev S3072x2048 : Shape := ⟨2, ![3072, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S1024x2048 : Shape := ⟨2, ![1024, 2048]⟩
abbrev S2048x3072 : Shape := ⟨2, ![2048, 3072]⟩
abbrev S3072 : Shape := ⟨1, ![3072]⟩
abbrev S2048x10 : Shape := ⟨2, ![2048, 10]⟩
abbrev S10 : Shape := ⟨1, ![10]⟩
abbrev S_ : Shape := ⟨0, ![]⟩
abbrev S4096x10 : Shape := ⟨2, ![4096, 10]⟩
abbrev S4096 : Shape := ⟨1, ![4096]⟩
abbrev S1x4096 : Shape := ⟨2, ![1, 4096]⟩

class Facts : Prop where
  bcast_S_S4096x10 : S_.BroadcastsInDim S4096x10 (![] : Fin 0 → Fin S4096x10.rank)
  bcast_S_S4096 : S_.BroadcastsInDim S4096 (![] : Fin 0 → Fin S4096.rank)
  bcast_S_S1x4096 : S_.BroadcastsInDim S1x4096 (![] : Fin 0 → Fin S1x4096.rank)

variable [Facts]

def fn {F : FTy → Type} [FloatOps F] (main_arg0 : FVec F S4096x3x32x32 .f32) (main_arg1 : FVec F S3072x2048 .f32) (main_arg2 : FVec F S2048 .f32) (main_arg3 : FVec F S2048x2048 .f32) (main_arg4 : FVec F S2048 .f32) (main_arg5 : FVec F S2048x1024 .f32) (main_arg6 : FVec F S1024 .f32) (main_arg7 : FVec F S1024x2048 .f32) (main_arg8 : FVec F S2048 .f32) (main_arg9 : FVec F S2048x2048 .f32) (main_arg10 : FVec F S2048 .f32) (main_arg11 : FVec F S2048x3072 .f32) (main_arg12 : FVec F S3072 .f32) (main_arg13 : FVec F S1024x2048 .f32) (main_arg14 : FVec F S2048 .f32) (main_arg15 : FVec F S2048x10 .f32) (main_arg16 : FVec F S10 .f32) : IVec S4096x10 1 × IVec S4096 1 × IVec S4096 1 × IVec S1x4096 1 × IVec S1x4096 1 :=
  let main_c : IVec S_ 1 := constantI S_ 1 1#1
  let main_v0 : IVec S4096x10 1 := broadcastInDim S4096x10 ![] bcast_S_S4096x10 main_c
  let main_c_0 : IVec S_ 1 := constantI S_ 1 1#1
  let main_v1 : IVec S4096 1 := broadcastInDim S4096 ![] bcast_S_S4096 main_c_0
  let main_c_1 : IVec S_ 1 := constantI S_ 1 1#1
  let main_v2 : IVec S4096 1 := broadcastInDim S4096 ![] bcast_S_S4096 main_c_1
  let main_c_2 : IVec S_ 1 := constantI S_ 1 0#1
  let main_v3 : IVec S1x4096 1 := broadcastInDim S1x4096 ![] bcast_S_S1x4096 main_c_2
  let main_c_3 : IVec S_ 1 := constantI S_ 1 1#1
  let main_v4 : IVec S1x4096 1 := broadcastInDim S1x4096 ![] bcast_S_S1x4096 main_c_3
  (main_v0, main_v1, main_v2, main_v3, main_v4)
-- ==== On_gate_and_mask.lean ====
abbrev S4096x3x32x32 : Shape := ⟨4, ![4096, 3, 32, 32]⟩
abbrev S3072x2048 : Shape := ⟨2, ![3072, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S1024x2048 : Shape := ⟨2, ![1024, 2048]⟩
abbrev S2048x3072 : Shape := ⟨2, ![2048, 3072]⟩
abbrev S3072 : Shape := ⟨1, ![3072]⟩
abbrev S2048x10 : Shape := ⟨2, ![2048, 10]⟩
abbrev S10 : Shape := ⟨1, ![10]⟩
abbrev S_ : Shape := ⟨0, ![]⟩
abbrev S4096x10 : Shape := ⟨2, ![4096, 10]⟩
abbrev S4096 : Shape := ⟨1, ![4096]⟩
abbrev S1x4096 : Shape := ⟨2, ![1, 4096]⟩

class Facts : Prop where
  bcast_S_S4096x10 : S_.BroadcastsInDim S4096x10 (![] : Fin 0 → Fin S4096x10.rank)
  bcast_S_S4096 : S_.BroadcastsInDim S4096 (![] : Fin 0 → Fin S4096.rank)
  bcast_S_S1x4096 : S_.BroadcastsInDim S1x4096 (![] : Fin 0 → Fin S1x4096.rank)

variable [Facts]

def fn {F : FTy → Type} [FloatOps F] (main_arg0 : FVec F S4096x3x32x32 .f32) (main_arg1 : FVec F S3072x2048 .f32) (main_arg2 : FVec F S2048 .f32) (main_arg3 : FVec F S2048x2048 .f32) (main_arg4 : FVec F S2048 .f32) (main_arg5 : FVec F S2048x1024 .f32) (main_arg6 : FVec F S1024 .f32) (main_arg7 : FVec F S1024x2048 .f32) (main_arg8 : FVec F S2048 .f32) (main_arg9 : FVec F S2048x2048 .f32) (main_arg10 : FVec F S2048 .f32) (main_arg11 : FVec F S2048x3072 .f32) (main_arg12 : FVec F S3072 .f32) (main_arg13 : FVec F S1024x2048 .f32) (main_arg14 : FVec F S2048 .f32) (main_arg15 : FVec F S2048x10 .f32) (main_arg16 : FVec F S10 .f32) : IVec S4096x10 1 × IVec S4096 1 × IVec S4096 1 × IVec S1x4096 1 × IVec S1x4096 1 :=
  let main_c : IVec S_ 1 := constantI S_ 1 0#1
  let main_v0 : IVec S4096x10 1 := broadcastInDim S4096x10 ![] bcast_S_S4096x10 main_c
  let main_c_0 : IVec S_ 1 := constantI S_ 1 1#1
  let main_v1 : IVec S4096 1 := broadcastInDim S4096 ![] bcast_S_S4096 main_c_0
  let main_c_1 : IVec S_ 1 := constantI S_ 1 0#1
  let main_v2 : IVec S4096 1 := broadcastInDim S4096 ![] bcast_S_S4096 main_c_1
  let main_c_2 : IVec S_ 1 := constantI S_ 1 0#1
  let main_v3 : IVec S1x4096 1 := broadcastInDim S1x4096 ![] bcast_S_S1x4096 main_c_2
  let main_c_3 : IVec S_ 1 := constantI S_ 1 1#1
  let main_v4 : IVec S1x4096 1 := broadcastInDim S1x4096 ![] bcast_S_S1x4096 main_c_3
  (main_v0, main_v1, main_v2, main_v3, main_v4)
-- ==== Pre_no_biases.lean ====
abbrev S4096x3x32x32 : Shape := ⟨4, ![4096, 3, 32, 32]⟩
abbrev S3072x2048 : Shape := ⟨2, ![3072, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S1024x2048 : Shape := ⟨2, ![1024, 2048]⟩
abbrev S2048x3072 : Shape := ⟨2, ![2048, 3072]⟩
abbrev S3072 : Shape := ⟨1, ![3072]⟩
abbrev S2048x10 : Shape := ⟨2, ![2048, 10]⟩
abbrev S10 : Shape := ⟨1, ![10]⟩
abbrev S_ : Shape := ⟨0, ![]⟩

class Facts : Prop where
  bcast_S_S2048 : S_.BroadcastsInDim S2048 (![] : Fin 0 → Fin S2048.rank)
  bcast_S_S1024 : S_.BroadcastsInDim S1024 (![] : Fin 0 → Fin S1024.rank)
  bcast_S_S3072 : S_.BroadcastsInDim S3072 (![] : Fin 0 → Fin S3072.rank)
  bcast_S_S10 : S_.BroadcastsInDim S10 (![] : Fin 0 → Fin S10.rank)

variable [Facts]

def fn {F : FTy → Type} [FloatOps F] (main_arg0 : FVec F S4096x3x32x32 .f32) (main_arg1 : FVec F S3072x2048 .f32) (main_arg2 : FVec F S2048 .f32) (main_arg3 : FVec F S2048x2048 .f32) (main_arg4 : FVec F S2048 .f32) (main_arg5 : FVec F S2048x1024 .f32) (main_arg6 : FVec F S1024 .f32) (main_arg7 : FVec F S1024x2048 .f32) (main_arg8 : FVec F S2048 .f32) (main_arg9 : FVec F S2048x2048 .f32) (main_arg10 : FVec F S2048 .f32) (main_arg11 : FVec F S2048x3072 .f32) (main_arg12 : FVec F S3072 .f32) (main_arg13 : FVec F S1024x2048 .f32) (main_arg14 : FVec F S2048 .f32) (main_arg15 : FVec F S2048x10 .f32) (main_arg16 : FVec F S10 .f32) : IVec S2048 1 × IVec S2048 1 × IVec S1024 1 × IVec S2048 1 × IVec S2048 1 × IVec S3072 1 × IVec S2048 1 × IVec S10 1 :=
  let main_cst : FVec F S_ .f32 := constant S_ .f32 0x00000000#32
  let main_v0 : FVec F S2048 .f32 := broadcastInDim S2048 ![] bcast_S_S2048 main_cst
  let main_v1 : IVec S2048 1 := cmpf .oeq main_arg2 main_v0
  let main_cst_0 : FVec F S_ .f32 := constant S_ .f32 0x00000000#32
  let main_v2 : FVec F S2048 .f32 := broadcastInDim S2048 ![] bcast_S_S2048 main_cst_0
  let main_v3 : IVec S2048 1 := cmpf .oeq main_arg4 main_v2
  let main_cst_1 : FVec F S_ .f32 := constant S_ .f32 0x00000000#32
  let main_v4 : FVec F S1024 .f32 := broadcastInDim S1024 ![] bcast_S_S1024 main_cst_1
  let main_v5 : IVec S1024 1 := cmpf .oeq main_arg6 main_v4
  let main_cst_2 : FVec F S_ .f32 := constant S_ .f32 0x00000000#32
  let main_v6 : FVec F S2048 .f32 := broadcastInDim S2048 ![] bcast_S_S2048 main_cst_2
  let main_v7 : IVec S2048 1 := cmpf .oeq main_arg8 main_v6
  let main_cst_3 : FVec F S_ .f32 := constant S_ .f32 0x00000000#32
  let main_v8 : FVec F S2048 .f32 := broadcastInDim S2048 ![] bcast_S_S2048 main_cst_3
  let main_v9 : IVec S2048 1 := cmpf .oeq main_arg10 main_v8
  let main_cst_4 : FVec F S_ .f32 := constant S_ .f32 0x00000000#32
  let main_v10 : FVec F S3072 .f32 := broadcastInDim S3072 ![] bcast_S_S3072 main_cst_4
  let main_v11 : IVec S3072 1 := cmpf .oeq main_arg12 main_v10
  let main_cst_5 : FVec F S_ .f32 := constant S_ .f32 0x00000000#32
  let main_v12 : FVec F S2048 .f32 := broadcastInDim S2048 ![] bcast_S_S2048 main_cst_5
  let main_v13 : IVec S2048 1 := cmpf .oeq main_arg14 main_v12
  let main_cst_6 : FVec F S_ .f32 := constant S_ .f32 0x00000000#32
  let main_v14 : FVec F S10 .f32 := broadcastInDim S10 ![] bcast_S_S10 main_cst_6
  let main_v15 : IVec S10 1 := cmpf .oeq main_arg16 main_v14
  (main_v1, main_v3, main_v5, main_v7, main_v9, main_v11, main_v13, main_v15)
-- ==== Pre_no_biases_and_finite.lean ====
abbrev S4096x3x32x32 : Shape := ⟨4, ![4096, 3, 32, 32]⟩
abbrev S3072x2048 : Shape := ⟨2, ![3072, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S1024x2048 : Shape := ⟨2, ![1024, 2048]⟩
abbrev S2048x3072 : Shape := ⟨2, ![2048, 3072]⟩
abbrev S3072 : Shape := ⟨1, ![3072]⟩
abbrev S2048x10 : Shape := ⟨2, ![2048, 10]⟩
abbrev S10 : Shape := ⟨1, ![10]⟩
abbrev S_ : Shape := ⟨0, ![]⟩

class Facts : Prop where
  bcast_S_S2048 : S_.BroadcastsInDim S2048 (![] : Fin 0 → Fin S2048.rank)
  bcast_S_S1024 : S_.BroadcastsInDim S1024 (![] : Fin 0 → Fin S1024.rank)
  bcast_S_S3072 : S_.BroadcastsInDim S3072 (![] : Fin 0 → Fin S3072.rank)
  bcast_S_S10 : S_.BroadcastsInDim S10 (![] : Fin 0 → Fin S10.rank)
  bcast_S_S4096x3x32x32 : S_.BroadcastsInDim S4096x3x32x32 (![] : Fin 0 → Fin S4096x3x32x32.rank)
  bcast_S_S3072x2048 : S_.BroadcastsInDim S3072x2048 (![] : Fin 0 → Fin S3072x2048.rank)
  bcast_S_S2048x2048 : S_.BroadcastsInDim S2048x2048 (![] : Fin 0 → Fin S2048x2048.rank)
  bcast_S_S2048x1024 : S_.BroadcastsInDim S2048x1024 (![] : Fin 0 → Fin S2048x1024.rank)
  bcast_S_S1024x2048 : S_.BroadcastsInDim S1024x2048 (![] : Fin 0 → Fin S1024x2048.rank)
  bcast_S_S2048x3072 : S_.BroadcastsInDim S2048x3072 (![] : Fin 0 → Fin S2048x3072.rank)

variable [Facts]

def fn_part2 {F : FTy → Type} [FloatOps F] (main_arg11 : FVec F S2048x3072 .f32) (main_v1 : IVec S2048 1) (main_v3 : IVec S2048 1) (main_v5 : IVec S1024 1) (main_v7 : IVec S2048 1) (main_v9 : IVec S2048 1) (main_v11 : IVec S3072 1) (main_v13 : IVec S2048 1) (main_v15 : IVec S10 1) (main_v18 : IVec S4096x3x32x32 1) (main_v21 : IVec S3072x2048 1) (main_v24 : IVec S2048x2048 1) (main_v27 : IVec S2048x1024 1) (main_v30 : IVec S1024x2048 1) (main_v33 : IVec S2048x2048 1) : IVec S2048 1 × IVec S2048 1 × IVec S1024 1 × IVec S2048 1 × IVec S2048 1 × IVec S3072 1 × IVec S2048 1 × IVec S10 1 × IVec S4096x3x32x32 1 × IVec S3072x2048 1 × IVec S2048x2048 1 × IVec S2048x1024 1 × IVec S1024x2048 1 × IVec S2048x2048 1 × IVec S2048x3072 1 :=
  let main_v34 : FVec F S2048x3072 .f32 := Host.absf main_arg11
  let main_cst_13 : FVec F S_ .f32 := constant S_ .f32 0x7F800000#32
  let main_v35 : FVec F S2048x3072 .f32 := broadcastInDim S2048x3072 ![] bcast_S_S2048x3072 main_cst_13
  let main_v36 : IVec S2048x3072 1 := cmpf .olt main_v34 main_v35
  (main_v1, main_v3, main_v5, main_v7, main_v9, main_v11, main_v13, main_v15, main_v18, main_v21, main_v24, main_v27, main_v30, main_v33, main_v36)

def fn_part1 {F : FTy → Type} [FloatOps F] (main_arg0 : FVec F S4096x3x32x32 .f32) (main_arg1 : FVec F S3072x2048 .f32) (main_arg3 : FVec F S2048x2048 .f32) (main_arg5 : FVec F S2048x1024 .f32) (main_arg7 : FVec F S1024x2048 .f32) (main_arg9 : FVec F S2048x2048 .f32) (main_arg11 : FVec F S2048x3072 .f32) (main_v1 : IVec S2048 1) (main_v3 : IVec S2048 1) (main_v5 : IVec S1024 1) (main_v7 : IVec S2048 1) (main_v9 : IVec S2048 1) (main_v11 : IVec S3072 1) (main_v13 : IVec S2048 1) (main_v15 : IVec S10 1) : IVec S2048 1 × IVec S2048 1 × IVec S1024 1 × IVec S2048 1 × IVec S2048 1 × IVec S3072 1 × IVec S2048 1 × IVec S10 1 × IVec S4096x3x32x32 1 × IVec S3072x2048 1 × IVec S2048x2048 1 × IVec S2048x1024 1 × IVec S1024x2048 1 × IVec S2048x2048 1 × IVec S2048x3072 1 :=
  let main_v16 : FVec F S4096x3x32x32 .f32 := Host.absf main_arg0
  let main_cst_7 : FVec F S_ .f32 := constant S_ .f32 0x7F800000#32
  let main_v17 : FVec F S4096x3x32x32 .f32 := broadcastInDim S4096x3x32x32 ![] bcast_S_S4096x3x32x32 main_cst_7
  let main_v18 : IVec S4096x3x32x32 1 := cmpf .olt main_v16 main_v17
  let main_v19 : FVec F S3072x2048 .f32 := Host.absf main_arg1
  let main_cst_8 : FVec F S_ .f32 := constant S_ .f32 0x7F800000#32
  let main_v20 : FVec F S3072x2048 .f32 := broadcastInDim S3072x2048 ![] bcast_S_S3072x2048 main_cst_8
  let main_v21 : IVec S3072x2048 1 := cmpf .olt main_v19 main_v20
  let main_v22 : FVec F S2048x2048 .f32 := Host.absf main_arg3
  let main_cst_9 : FVec F S_ .f32 := constant S_ .f32 0x7F800000#32
  let main_v23 : FVec F S2048x2048 .f32 := broadcastInDim S2048x2048 ![] bcast_S_S2048x2048 main_cst_9
  let main_v24 : IVec S2048x2048 1 := cmpf .olt main_v22 main_v23
  let main_v25 : FVec F S2048x1024 .f32 := Host.absf main_arg5
  let main_cst_10 : FVec F S_ .f32 := constant S_ .f32 0x7F800000#32
  let main_v26 : FVec F S2048x1024 .f32 := broadcastInDim S2048x1024 ![] bcast_S_S2048x1024 main_cst_10
  let main_v27 : IVec S2048x1024 1 := cmpf .olt main_v25 main_v26
  let main_v28 : FVec F S1024x2048 .f32 := Host.absf main_arg7
  let main_cst_11 : FVec F S_ .f32 := constant S_ .f32 0x7F800000#32
  let main_v29 : FVec F S1024x2048 .f32 := broadcastInDim S1024x2048 ![] bcast_S_S1024x2048 main_cst_11
  let main_v30 : IVec S1024x2048 1 := cmpf .olt main_v28 main_v29
  let main_v31 : FVec F S2048x2048 .f32 := Host.absf main_arg9
  let main_cst_12 : FVec F S_ .f32 := constant S_ .f32 0x7F800000#32
  let main_v32 : FVec F S2048x2048 .f32 := broadcastInDim S2048x2048 ![] bcast_S_S2048x2048 main_cst_12
  let main_v33 : IVec S2048x2048 1 := cmpf .olt main_v31 main_v32
  fn_part2 (F := F) main_arg11 main_v1 main_v3 main_v5 main_v7 main_v9 main_v11 main_v13 main_v15 main_v18 main_v21 main_v24 main_v27 main_v30 main_v33

def fn {F : FTy → Type} [FloatOps F] (main_arg0 : FVec F S4096x3x32x32 .f32) (main_arg1 : FVec F S3072x2048 .f32) (main_arg2 : FVec F S2048 .f32) (main_arg3 : FVec F S2048x2048 .f32) (main_arg4 : FVec F S2048 .f32) (main_arg5 : FVec F S2048x1024 .f32) (main_arg6 : FVec F S1024 .f32) (main_arg7 : FVec F S1024x2048 .f32) (main_arg8 : FVec F S2048 .f32) (main_arg9 : FVec F S2048x2048 .f32) (main_arg10 : FVec F S2048 .f32) (main_arg11 : FVec F S2048x3072 .f32) (main_arg12 : FVec F S3072 .f32) (main_arg13 : FVec F S1024x2048 .f32) (main_arg14 : FVec F S2048 .f32) (main_arg15 : FVec F S2048x10 .f32) (main_arg16 : FVec F S10 .f32) : IVec S2048 1 × IVec S2048 1 × IVec S1024 1 × IVec S2048 1 × IVec S2048 1 × IVec S3072 1 × IVec S2048 1 × IVec S10 1 × IVec S4096x3x32x32 1 × IVec S3072x2048 1 × IVec S2048x2048 1 × IVec S2048x1024 1 × IVec S1024x2048 1 × IVec S2048x2048 1 × IVec S2048x3072 1 :=
  let main_cst : FVec F S_ .f32 := constant S_ .f32 0x00000000#32
  let main_v0 : FVec F S2048 .f32 := broadcastInDim S2048 ![] bcast_S_S2048 main_cst
  let main_v1 : IVec S2048 1 := cmpf .oeq main_arg2 main_v0
  let main_cst_0 : FVec F S_ .f32 := constant S_ .f32 0x00000000#32
  let main_v2 : FVec F S2048 .f32 := broadcastInDim S2048 ![] bcast_S_S2048 main_cst_0
  let main_v3 : IVec S2048 1 := cmpf .oeq main_arg4 main_v2
  let main_cst_1 : FVec F S_ .f32 := constant S_ .f32 0x00000000#32
  let main_v4 : FVec F S1024 .f32 := broadcastInDim S1024 ![] bcast_S_S1024 main_cst_1
  let main_v5 : IVec S1024 1 := cmpf .oeq main_arg6 main_v4
  let main_cst_2 : FVec F S_ .f32 := constant S_ .f32 0x00000000#32
  let main_v6 : FVec F S2048 .f32 := broadcastInDim S2048 ![] bcast_S_S2048 main_cst_2
  let main_v7 : IVec S2048 1 := cmpf .oeq main_arg8 main_v6
  let main_cst_3 : FVec F S_ .f32 := constant S_ .f32 0x00000000#32
  let main_v8 : FVec F S2048 .f32 := broadcastInDim S2048 ![] bcast_S_S2048 main_cst_3
  let main_v9 : IVec S2048 1 := cmpf .oeq main_arg10 main_v8
  let main_cst_4 : FVec F S_ .f32 := constant S_ .f32 0x00000000#32
  let main_v10 : FVec F S3072 .f32 := broadcastInDim S3072 ![] bcast_S_S3072 main_cst_4
  let main_v11 : IVec S3072 1 := cmpf .oeq main_arg12 main_v10
  let main_cst_5 : FVec F S_ .f32 := constant S_ .f32 0x00000000#32
  let main_v12 : FVec F S2048 .f32 := broadcastInDim S2048 ![] bcast_S_S2048 main_cst_5
  let main_v13 : IVec S2048 1 := cmpf .oeq main_arg14 main_v12
  let main_cst_6 : FVec F S_ .f32 := constant S_ .f32 0x00000000#32
  let main_v14 : FVec F S10 .f32 := broadcastInDim S10 ![] bcast_S_S10 main_cst_6
  let main_v15 : IVec S10 1 := cmpf .oeq main_arg16 main_v14
  fn_part1 (F := F) main_arg0 main_arg1 main_arg3 main_arg5 main_arg7 main_arg9 main_arg11 main_v1 main_v3 main_v5 main_v7 main_v9 main_v11 main_v13 main_v15
-- ==== Kernel.lean ====
abbrev S4096x3x32x32 : Shape := ⟨4, ![4096, 3, 32, 32]⟩
abbrev S3072x2048 : Shape := ⟨2, ![3072, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S1024x2048 : Shape := ⟨2, ![1024, 2048]⟩
abbrev S2048x3072 : Shape := ⟨2, ![2048, 3072]⟩
abbrev S3072 : Shape := ⟨1, ![3072]⟩
abbrev S2048x10 : Shape := ⟨2, ![2048, 10]⟩
abbrev S10 : Shape := ⟨1, ![10]⟩
abbrev S4096x3072 : Shape := ⟨2, ![4096, 3072]⟩
abbrev S_ : Shape := ⟨0, ![]⟩
abbrev S2048x128 : Shape := ⟨2, ![2048, 128]⟩
abbrev S1 : Shape := ⟨1, ![1]⟩
abbrev S4096x128 : Shape := ⟨2, ![4096, 128]⟩
abbrev S4096 : Shape := ⟨1, ![4096]⟩
abbrev S512x3072 : Shape := ⟨2, ![512, 3072]⟩
abbrev S512x128 : Shape := ⟨2, ![512, 128]⟩
abbrev S512 : Shape := ⟨1, ![512]⟩
abbrev S512x2048 : Shape := ⟨2, ![512, 2048]⟩
abbrev S512x1024 : Shape := ⟨2, ![512, 1024]⟩
abbrev S4096x10 : Shape := ⟨2, ![4096, 10]⟩
abbrev S1x4096 : Shape := ⟨2, ![1, 4096]⟩

abbrev nBuf : Space → Nat
  | .hbm => 41
  | .vmem => 14
  | .smem => 0
  | _ => 0

abbrev bufTy : (tb : Table) → Fin (tcTables nBuf tb) → BufTy
  | .hbm, ⟨0, _⟩ => ⟨S4096x3x32x32, .f32⟩
  | .hbm, ⟨1, _⟩ => ⟨S3072x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x3072, .f32⟩
  | .hbm, ⟨12, _⟩ => ⟨S3072, .f32⟩
  | .hbm, ⟨13, _⟩ => ⟨S1024x2048, .f32⟩
  | .hbm, ⟨14, _⟩ => ⟨S2048, .f32⟩
  | .hbm, ⟨15, _⟩ => ⟨S2048x10, .f32⟩
  | .hbm, ⟨16, _⟩ => ⟨S10, .f32⟩
  | .hbm, ⟨17, _⟩ => ⟨S4096x3072, .f32⟩
  | .hbm, ⟨18, _⟩ => ⟨S3072x2048, .bf16⟩
  | .hbm, ⟨19, _⟩ => ⟨S2048x2048, .bf16⟩
  | .hbm, ⟨20, _⟩ => ⟨S2048x1024, .bf16⟩
  | .hbm, ⟨21, _⟩ => ⟨S1024x2048, .fp8e4m3⟩
  | .hbm, ⟨22, _⟩ => ⟨S2048x2048, .fp8e4m3⟩
  | .hbm, ⟨23, _⟩ => ⟨S2048x3072, .fp8e4m3⟩
  | .hbm, ⟨24, _⟩ => ⟨S1024x2048, .bf16⟩
  | .hbm, ⟨25, _⟩ => ⟨S_, .bf16⟩
  | .hbm, ⟨26, _⟩ => ⟨S2048x128, .bf16⟩
  | .hbm, ⟨27, _⟩ => ⟨S2048x10, .bf16⟩
  | .hbm, ⟨28, _⟩ => ⟨S_, .i32⟩
  | .hbm, ⟨29, _⟩ => ⟨S1, .i32⟩
  | .hbm, ⟨30, _⟩ => ⟨S2048x128, .bf16⟩
  | .hbm, ⟨31, _⟩ => ⟨S4096x128, .bf16⟩
  | .hbm, ⟨32, _⟩ => ⟨S4096, .f32⟩
  | .hbm, ⟨33, _⟩ => ⟨S4096x10, .bf16⟩
  | .hbm, ⟨34, _⟩ => ⟨S4096x10, .f32⟩
  | .hbm, ⟨35, _⟩ => ⟨S_, .i32⟩
  | .hbm, ⟨36, _⟩ => ⟨S4096, .i32⟩
  | .hbm, ⟨37, _⟩ => ⟨S_, .f32⟩
  | .hbm, ⟨38, _⟩ => ⟨S1x4096, .f32⟩
  | .hbm, ⟨39, _⟩ => ⟨S_, .i1⟩
  | .hbm, ⟨40, _⟩ => ⟨S1x4096, .i1⟩
  | .local _ .vmem, ⟨0, _⟩ => ⟨S512x3072, .f32⟩
  | .local _ .vmem, ⟨1, _⟩ => ⟨S512x3072, .f32⟩
  | .local _ .vmem, ⟨2, _⟩ => ⟨S3072x2048, .bf16⟩
  | .local _ .vmem, ⟨3, _⟩ => ⟨S2048x2048, .bf16⟩
  | .local _ .vmem, ⟨4, _⟩ => ⟨S2048x1024, .bf16⟩
  | .local _ .vmem, ⟨5, _⟩ => ⟨S1024x2048, .fp8e4m3⟩
  | .local _ .vmem, ⟨6, _⟩ => ⟨S2048x2048, .fp8e4m3⟩
  | .local _ .vmem, ⟨7, _⟩ => ⟨S2048x3072, .fp8e4m3⟩
  | .local _ .vmem, ⟨8, _⟩ => ⟨S1024x2048, .bf16⟩
  | .local _ .vmem, ⟨9, _⟩ => ⟨S2048x128, .bf16⟩
  | .local _ .vmem, ⟨10, _⟩ => ⟨S512x128, .bf16⟩
  | .local _ .vmem, ⟨11, _⟩ => ⟨S512x128, .bf16⟩
  | .local _ .vmem, ⟨12, _⟩ => ⟨S512, .f32⟩
  | .local _ .vmem, ⟨13, _⟩ => ⟨S512, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4096x3x32x32 : Shape := ⟨4, ![4096, 3, 32, 32]⟩
abbrev S3072x2048 : Shape := ⟨2, ![3072, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S1024x2048 : Shape := ⟨2, ![1024, 2048]⟩
abbrev S2048x3072 : Shape := ⟨2, ![2048, 3072]⟩
abbrev S3072 : Shape := ⟨1, ![3072]⟩
abbrev S2048x10 : Shape := ⟨2, ![2048, 10]⟩
abbrev S10 : Shape := ⟨1, ![10]⟩
abbrev S4096x3072 : Shape := ⟨2, ![4096, 3072]⟩
abbrev S4096x2048 : Shape := ⟨2, ![4096, 2048]⟩
abbrev S1x2048 : Shape := ⟨2, ![1, 2048]⟩
abbrev S_ : Shape := ⟨0, ![]⟩
abbrev S4096x1024 : Shape := ⟨2, ![4096, 1024]⟩
abbrev S1x1024 : Shape := ⟨2, ![1, 1024]⟩
abbrev S1x3072 : Shape := ⟨2, ![1, 3072]⟩
abbrev S4096 : Shape := ⟨1, ![4096]⟩
abbrev S1x4096 : Shape := ⟨2, ![1, 4096]⟩
abbrev S1x4096x1024 : Shape := ⟨3, ![1, 4096, 1024]⟩
abbrev S1 : Shape := ⟨1, ![1]⟩
abbrev S1x1 : Shape := ⟨2, ![1, 1]⟩
abbrev S4096x10 : Shape := ⟨2, ![4096, 10]⟩
abbrev S1x10 : Shape := ⟨2, ![1, 10]⟩
abbrev S4096x1 : Shape := ⟨2, ![4096, 1]⟩

abbrev nBuf : Space → Nat
  | .hbm => 117
  | .vmem => 0
  | .smem => 0
  | _ => 0

abbrev bufTy : (tb : Table) → Fin (tcTables nBuf tb) → BufTy
  | .hbm, ⟨0, _⟩ => ⟨S4096x3x32x32, .f32⟩
  | .hbm, ⟨1, _⟩ => ⟨S3072x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x3072, .f32⟩
  | .hbm, ⟨12, _⟩ => ⟨S3072, .f32⟩
  | .hbm, ⟨13, _⟩ => ⟨S1024x2048, .f32⟩
  | .hbm, ⟨14, _⟩ => ⟨S2048, .f32⟩
  | .hbm, ⟨15, _⟩ => ⟨S2048x10, .f32⟩
  | .hbm, ⟨16, _⟩ => ⟨S10, .f32⟩
  | .hbm, ⟨17, _⟩ => ⟨S4096x3072, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x3072, .f32⟩
  | .hbm, ⟨51, _⟩ => ⟨S1x3072, .f32⟩
  | .hbm, ⟨52, _⟩ => ⟨S4096x3072, .f32⟩
  | .hbm, ⟨53, _⟩ => ⟨S4096x3072, .f32⟩
  | .hbm, ⟨54, _⟩ => ⟨S4096x3x32x32, .f32⟩
  | .hbm, ⟨55, _⟩ => ⟨S4096x3x32x32, .f32⟩
  | .hbm, ⟨56, _⟩ => ⟨S4096x3x32x32, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S1x4096, .f32⟩
  | .hbm, ⟨63, _⟩ => ⟨S1x4096x1024, .f32⟩
  | .hbm, ⟨64, _⟩ => ⟨S1x4096, .f32⟩
  | .hbm, ⟨65, _⟩ => ⟨S_, .f32⟩
  | .hbm, ⟨66, _⟩ => ⟨S1x4096, .f32⟩
  | .hbm, ⟨67, _⟩ => ⟨S1x4096, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S_, .i32⟩
  | .hbm, ⟨73, _⟩ => ⟨S1, .i32⟩
  | .hbm, ⟨74, _⟩ => ⟨S1x4096, .f32⟩
  | .hbm, ⟨75, _⟩ => ⟨S_, .f32⟩
  | .hbm, ⟨76, _⟩ => ⟨S4096, .f32⟩
  | .hbm, ⟨77, _⟩ => ⟨S_, .f32⟩
  | .hbm, ⟨78, _⟩ => ⟨S4096, .f32⟩
  | .hbm, ⟨79, _⟩ => ⟨S4096, .f32⟩
  | .hbm, ⟨80, _⟩ => ⟨S1x4096, .f32⟩
  | .hbm, ⟨81, _⟩ => ⟨S1x4096, .f32⟩
  | .hbm, ⟨82, _⟩ => ⟨S1x4096, .f32⟩
  | .hbm, ⟨83, _⟩ => ⟨S_, .f32⟩
  | .hbm, ⟨84, _⟩ => ⟨S4096, .f32⟩
  | .hbm, ⟨85, _⟩ => ⟨S1x4096, .f32⟩
  | .hbm, ⟨86, _⟩ => ⟨S1x4096, .f32⟩
  | .hbm, ⟨87, _⟩ => ⟨S_, .f32⟩
  | .hbm, ⟨88, _⟩ => ⟨S4096, .f32⟩
  | .hbm, ⟨89, _⟩ => ⟨S1x4096, .i32⟩
  | .hbm, ⟨90, _⟩ => ⟨S_, .f32⟩
  | .hbm, ⟨91, _⟩ => ⟨S_, .i32⟩
  | .hbm, ⟨92, _⟩ => ⟨S4096, .f32⟩
  | .hbm, ⟨93, _⟩ => ⟨S4096, .i32⟩
  | .hbm, ⟨94, _⟩ => ⟨S1, .i32⟩
  | .hbm, ⟨95, _⟩ => ⟨S1x1, .i32⟩
  | .hbm, ⟨96, _⟩ => ⟨S1x4096, .i32⟩
  | .hbm, ⟨97, _⟩ => ⟨S1x4096, .i32⟩
  | .hbm, ⟨98, _⟩ => ⟨S1x4096, .i1⟩
  | .hbm, ⟨99, _⟩ => ⟨S_, .f32⟩
  | .hbm, ⟨100, _⟩ => ⟨S4096x10, .f32⟩
  | .hbm, ⟨101, _⟩ => ⟨S4096x1024, .f32⟩
  | .hbm, ⟨102, _⟩ => ⟨S4096x2048, .f32⟩
  | .hbm, ⟨103, _⟩ => ⟨S1x2048, .f32⟩
  | .hbm, ⟨104, _⟩ => ⟨S4096x2048, .f32⟩
  | .hbm, ⟨105, _⟩ => ⟨S4096x2048, .f32⟩
  | .hbm, ⟨106, _⟩ => ⟨S_, .f32⟩
  | .hbm, ⟨107, _⟩ => ⟨S4096x2048, .f32⟩
  | .hbm, ⟨108, _⟩ => ⟨S4096x2048, .f32⟩
  | .hbm, ⟨109, _⟩ => ⟨S4096x10, .f32⟩
  | .hbm, ⟨110, _⟩ => ⟨S1x10, .f32⟩
  | .hbm, ⟨111, _⟩ => ⟨S4096x10, .f32⟩
  | .hbm, ⟨112, _⟩ => ⟨S4096x10, .f32⟩
  | .hbm, ⟨113, _⟩ => ⟨S4096, .i1⟩
  | .hbm, ⟨114, _⟩ => ⟨S4096x1, .i1⟩
  | .hbm, ⟨115, _⟩ => ⟨S4096x10, .i1⟩
  | .hbm, ⟨116, _⟩ => ⟨S4096x10, .f32⟩
  | _, _ => ⟨S4096x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_cst : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_call1_cst : Ref sig .tc := ⟨.hbm, 29, rfl⟩
abbrev main_call1_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call3_cst : Ref sig .tc := ⟨.hbm, 47, rfl⟩
abbrev main_call3_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst : Ref sig .tc := ⟨.hbm, 57, rfl⟩
abbrev main_v32 : Ref sig .tc := ⟨.hbm, 58, rfl⟩
abbrev main_cst_0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_1 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_2 : Ref sig .tc := ⟨.hbm, 69, rfl⟩
abbrev main_v41 : Ref sig .tc := ⟨.hbm, 70, rfl⟩
abbrev main_v42 : Ref sig .tc := ⟨.hbm, 71, rfl⟩
abbrev main_c : Ref sig .tc := ⟨.hbm, 72, rfl⟩
abbrev main_v43 : Ref sig .tc := ⟨.hbm, 73, rfl⟩
abbrev main_v44 : Ref sig .tc := ⟨.hbm, 74, rfl⟩
abbrev main_cst_3 : Ref sig .tc := ⟨.hbm, 75, rfl⟩
abbrev main_v45 : Ref sig .tc := ⟨.hbm, 76, rfl⟩
abbrev main_cst_4 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_5 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_6 : Ref sig .tc := ⟨.hbm, 87, rfl⟩
abbrev main_v54 : Ref sig .tc := ⟨.hbm, 88, rfl⟩
abbrev main_call4_v0 : Ref sig .tc := ⟨.hbm, 89, rfl⟩
abbrev main_call4_cst : Ref sig .tc := ⟨.hbm, 90, rfl⟩
abbrev main_call4_c : Ref sig .tc := ⟨.hbm, 91, rfl⟩
abbrev main_call4_v1_0 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call5_cst : Ref sig .tc := ⟨.hbm, 106, rfl⟩
abbrev main_call5_v0 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_call6_v0 : Ref sig .tc := ⟨.hbm, 115, rfl⟩
abbrev main_v74 : Ref sig .tc := ⟨.hbm, 116, rfl⟩

abbrev nD : Nat := 1
abbrev τ : Topo := Topo.v7x

variable {F : FTy → Type} [FloatOps F]
-- ==== Proof.Ref.Stages.lean ====
/-
  The reference's results as whole-array functions of its arguments, one definition per line of the
  reference's mathematics, in the operations the printed program applies.
-/
module

public import proofs.«01_k».proof.Proof.Gen.ReferenceIdeal
public import Idealize.ShloMosaic.PureOps.Ideal

@[expose] public section

noncomputable section

namespace Cert.Ref

open Idealize.ShloMosaic Cert.ReferenceIdeal Cert.ReferenceIdeal.Facts₀ Cert.ReferenceIdeal.Facts

/-- An array of ideal floats of shape `s`. -/
abbrev Arr (s : Shape) : Type := FVec Ideal s .f32

/-- A bias of 2048 entries, repeated on every row. -/
def bias2048 (b : Arr S2048) : Arr S4096x2048 :=
  broadcastInDim S4096x2048 ![0, 1] bcast_S1x2048_S4096x2048_0_1 (broadcastInDim S1x2048 ![1] bcast_S2048_S1x2048_1 b)
/-- A bias of 1024 entries, repeated on every row. -/
def bias1024 (b : Arr S1024) : Arr S4096x1024 :=
  broadcastInDim S4096x1024 ![0, 1] bcast_S1x1024_S4096x1024_0_1 (broadcastInDim S1x1024 ![1] bcast_S1024_S1x1024_1 b)
/-- A bias of 3072 entries, repeated on every row. -/
def bias3072 (b : Arr S3072) : Arr S4096x3072 :=
  broadcastInDim S4096x3072 ![0, 1] bcast_S1x3072_S4096x3072_0_1 (broadcastInDim S1x3072 ![1] bcast_S3072_S1x3072_1 b)
/-- A bias of 10 entries, repeated on every row. -/
def bias10 (b : Arr S10) : Arr S4096x10 :=
  broadcastInDim S4096x10 ![0, 1] bcast_S1x10_S4096x10_0_1 (broadcastInDim S1x10 ![1] bcast_S10_S1x10_1 b)

/-- The rectified array. -/
def relu (h : Arr S4096x2048) : Arr S4096x2048 :=
  maximumf h (broadcastInDim S4096x2048 ![] bcast_S_S4096x2048 (constant S_ .f32 0x00000000#32))

/-- The images, flattened. -/
def flat (x : Arr S4096x3x32x32) : Arr S4096x3072 := shapeCast S4096x3072 x shapeCasts_S4096x3x32x32_S4096x3072

/-- The encoder's first layer. -/
def enc1 (x : Arr S4096x3072) (W : Arr S3072x2048) (b : Arr S2048) : Arr S4096x2048 :=
  relu (addf (Host.dotGeneral dot_S4096x3072_S3072x2048_S4096x2048_1_0_0_1_n_n none x W) (bias2048 b))
/-- A layer from 2048 to 2048. -/
def mid (h : Arr S4096x2048) (W : Arr S2048x2048) (b : Arr S2048) : Arr S4096x2048 :=
  relu (addf (Host.dotGeneral dot_S4096x2048_S2048x2048_S4096x2048_1_0_0_1_n_n none h W) (bias2048 b))
/-- The encoder's last layer, which is not rectified. -/
def enc3 (h : Arr S4096x2048) (W : Arr S2048x1024) (b : Arr S1024) : Arr S4096x1024 :=
  addf (Host.dotGeneral dot_S4096x2048_S2048x1024_S4096x1024_1_0_0_1_n_n none h W) (bias1024 b)
/-- A layer from the latent code to 2048. -/
def up (l : Arr S4096x1024) (W : Arr S1024x2048) (b : Arr S2048) : Arr S4096x2048 :=
  relu (addf (Host.dotGeneral dot_S4096x1024_S1024x2048_S4096x2048_1_0_0_1_n_n none l W) (bias2048 b))
/-- The decoder's last layer, which is not rectified. -/
def dec3 (h : Arr S4096x2048) (W : Arr S2048x3072) (b : Arr S3072) : Arr S4096x3072 :=
  addf (Host.dotGeneral dot_S4096x2048_S2048x3072_S4096x3072_1_0_0_1_n_n none h W) (bias3072 b)
/-- The expert's last layer, which is not rectified. -/
def out10 (h : Arr S4096x2048) (W : Arr S2048x10) (b : Arr S10) : Arr S4096x10 :=
  addf (Host.dotGeneral dot_S4096x2048_S2048x10_S4096x10_1_0_0_1_n_n none h W) (bias10 b)

/-- The latent codes. -/
def latent (x : Arr S4096x3x32x32) (We1 : Arr S3072x2048) (be1 : Arr S2048) (We2 : Arr S2048x2048) (be2 : Arr S2048)
    (We3 : Arr S2048x1024) (be3 : Arr S1024) : Arr S4096x1024 :=
  enc3 (mid (enc1 (flat x) We1 be1) We2 be2) We3 be3
/-- The decoded codes. -/
def recon (l : Arr S4096x1024) (Wd1 : Arr S1024x2048) (bd1 : Arr S2048) (Wd2 : Arr S2048x2048) (bd2 : Arr S2048)
    (Wd3 : Arr S2048x3072) (bd3 : Arr S3072) : Arr S4096x3072 :=
  dec3 (mid (up l Wd1 bd1) Wd2 bd2) Wd3 bd3
/-- Each image's mean absolute reconstruction error. -/
def errs (r : Arr S4096x3072) (x : Arr S4096x3x32x32) : Arr S4096 :=
  Host.divf
    (Host.reduceAdd (Host.absf (subf (shapeCast S4096x3x32x32 r shapeCasts_S4096x3072_S4096x3x32x32) x))
      (constant S_ .f32 0x00000000#32) reducesTo_S4096x3x32x32_S4096_d1_2_3 h_S_)
    (broadcastInDim S4096 ![] bcast_S_S4096 (constant S_ .f32 0x45400000#32))
/-- The errors stacked over the one gate. -/
def stacked (e : Arr S4096) : Arr S1x4096 := broadcastInDim S1x4096 ![1] bcast_S4096_S1x4096_1 e
/-- The stacked errors, negated, over the temperature. -/
def relevance (e : Arr S1x4096) : Arr S1x4096 :=
  Host.divf (Host.negf e) (broadcastInDim S1x4096 ![] bcast_S_S1x4096 (constant S_ .f32 0x40000000#32))
/-- The relevance with the newest gate's row divided by the temperature once more. -/
def favoured (r : Arr S1x4096) : Arr S1x4096 :=
  Host.scatter scatter_S1x4096_S1_S4096_0_0_0_0 (fun _ b => b) r (broadcastInDim S1 ![] bcast_S_S1 (constantI S_ 32 0#32))
    (Host.divf (shapeCast S4096 r shapeCasts_S1x4096_S4096) (broadcastInDim S4096 ![] bcast_S_S4096 (constant S_ .f32 0x40000000#32)))
/-- The largest relevance of each image. -/
def largest (f : Arr S1x4096) : Arr S4096 :=
  maximumf (broadcastInDim S4096 ![] bcast_S_S4096 (constant S_ .f32 0xFF800000#32))
    (Host.reduce FloatOps.maximumf f (constant S_ .f32 0xFF800000#32) reducesTo_S1x4096_S4096_d0 h_S_)
/-- The relevances' exponentials, each image's largest taken off. -/
def exps (f : Arr S1x4096) : Arr S1x4096 :=
  Host.exp (subf f (broadcastInDim S1x4096 ![1] bcast_S4096_S1x4096_1 (largest f)))
/-- The softmax over the gates. -/
def scores (f : Arr S1x4096) : Arr S1x4096 :=
  Host.divf (exps f) (broadcastInDim S1x4096 ![1] bcast_S4096_S1x4096_1
    (Host.reduceAdd (exps f) (constant S_ .f32 0x00000000#32) reducesTo_S1x4096_S4096_d0 h_S_))
/-- The least error over the gates. -/
def least (e : Arr S1x4096) : Arr S4096 :=
  Host.reduce FloatOps.minimumf e (constant S_ .f32 0x7F800000#32) reducesTo_S1x4096_S4096_d0 h_S_
/-- The gate of least error. -/
def gate (e : Arr S1x4096) : IVec S4096 32 := fun j =>
  (Host.argReduce reducer_argmin_f32_i32 e (iotaInDim S1x4096 32 0) (constant S_ .f32 0x7F800000#32) (constantI S_ 32 0#32)
    reducesTo_S1x4096_S4096_d0 h_S_ j).2
/-- Which gate each image goes to. -/
def mask (g : IVec S4096 32) : IVec S1x4096 1 :=
  cmpi .eq (broadcastInDim S1x4096 ![0, 1] bcast_S1x1_S1x4096_0_1 (broadcastInDim S1x1 ![0] bcast_S1_S1x1_0 (iotaInDim S1 32 0)))
    (broadcastInDim S1x4096 ![1] bcast_S4096_S1x4096_1 g)
/-- The expert's logits, before the gate is asked. -/
def expert (l : Arr S4096x1024) (Wx1 : Arr S1024x2048) (bx1 : Arr S2048) (Wx2 : Arr S2048x10) (bx2 : Arr S10) : Arr S4096x10 :=
  out10 (up (shapeCast S4096x1024 (broadcastInDim S1x4096x1024 ![1, 2] bcast_S4096x1024_S1x4096x1024_1_2 l)
    shapeCasts_S1x4096x1024_S4096x1024) Wx1 bx1) Wx2 bx2
/-- The expert's logits where the gate sends the image to it, zero elsewhere. -/
def gated (k : IVec S1x4096 1) (o : Arr S4096x10) : Arr S4096x10 :=
  select (broadcastInDim S4096x10 ![0, 1] bcast_S4096x1_S4096x10_0_1
      (broadcastInDim S4096x1 ![0] bcast_S4096_S4096x1_0 (shapeCast S4096 k shapeCasts_S1x4096_S4096)))
    o (broadcastInDim S4096x10 ![] bcast_S_S4096x10 (constant S_ .f32 0x00000000#32))

end Cert.Ref

end
-- ==== Proof.Ref.Run.lean ====
/-
  The reference's run: every weakly fair execution ends with the five results at the stages of
  `Ref/Stages.lean` over the launch contents of the arguments, the arguments unchanged and no semaphore counter.
-/
module

public import proofs.«01_k».proof.Proof.Ref.Stages
public import Idealize.ShloMosaic.Lib.Claim
public import Idealize.ShloMosaic.Lib.Quiescent
public import Idealize.ShloMosaic.Lib.StableHlo.RunRead
public import Idealize.ShloMosaic.Adequacy
public import Idealize.ShloMosaic.Init

@[expose] public section

set_option maxRecDepth 16384

noncomputable section

namespace Cert.Ref

open Idealize.ShloMosaic Idealize.SL.Sem Cert.ReferenceIdeal

variable (m : (ℓ : Loc nD τ sig) → Buf (Elt Ideal) ℓ) (ρ : Dev nD → PrngReg)

/-- The latent codes of the arguments at launch. -/
def latentAt (c : Dev nD) : Arr S4096x1024 :=
  latent (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The errors of the arguments at launch, stacked over the one gate. -/
def stackedAt (c : Dev nD) : Arr S1x4096 :=
  stacked (errs (recon (latentAt m c) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))) (m ((c.tc : Thread nD τ).loc main_arg0)))

/-- The expert's logits of the arguments at launch. -/
def expertAt (c : Dev nD) : Arr S4096x10 :=
  expert (latentAt m c) (m ((c.tc : Thread nD τ).loc main_arg13)) (m ((c.tc : Thread nD τ).loc main_arg14))
    (m ((c.tc : Thread nD τ).loc main_arg15)) (m ((c.tc : Thread nD τ).loc main_arg16))

set_option maxHeartbeats 4000000 in
/-- Every weakly fair execution of the reference ends with its results at the stages and its arguments unchanged. -/
theorem run : θ_run defs (onTc (τ := τ) (main (F := Ideal))) ⟨m, fun _ => 0, ρ⟩ fun r => (∀ c : Dev nD,
      r.2.mem ((c.tc : Thread nD τ).loc main_v74) = gated (mask (gate (stackedAt m c))) (expertAt m c)
      ∧ r.2.mem ((c.tc : Thread nD τ).loc main_v55) = gate (stackedAt m c)
      ∧ r.2.mem ((c.tc : Thread nD τ).loc main_v54) = least (stackedAt m c)
      ∧ r.2.mem ((c.tc : Thread nD τ).loc main_v53) = scores (favoured (relevance (stackedAt m c)))
      ∧ r.2.mem ((c.tc : Thread nD τ).loc main_v60) = mask (gate (stackedAt m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0 := by
  refine θ_run_mono (StableHlo.run_hlo _ _ (by hlo_seq) (by decide) (by decide) (by simp)
      (by intro _ h; (repeat (cases h with | head => rfl | tail _ h => ?_)); exact nomatch h) _ _) fun r h => ⟨fun c => ?_, ?_⟩
  · refine ⟨?_, ?_, ?_, ?_, ?_, ?_⟩
    · rw [h c]
      after_reads_simp
      rfl
    · rw [h c]
      after_reads_simp
      rfl
    · rw [h c]
      after_reads_simp
      rfl
    · rw [h c]
      after_reads_simp
      rfl
    · rw [h c]
      after_reads_simp
      rfl
    · refine ⟨?_, ?_, ?_, ?_, ?_, ?_, ?_, ?_, ?_, ?_, ?_, ?_, ?_, ?_, ?_, ?_, ?_⟩ <;>
      · rw [h c]
        after_reads_simp
  · exact sem_eq_zero_of_no_sems (by decide) r.2

end Cert.Ref

end
-- ==== Proof.Common.Layers.lean ====
/-
  The mathematics both programs are compared with: what one image's row becomes, layer by layer, over the extended
  reals. Nothing here names a program.
-/
module

public import Idealize.ShloMosaic.PureOps.Ideal
public import Idealize.ShloMosaic.Lib.Pointwise

@[expose] public section

noncomputable section

namespace Cert.Layers

open Idealize.ShloMosaic

/-- A row of `n` extended reals. -/
abbrev Row (n : Nat) : Type := Fin n → EReal

/-- A matrix of extended reals, `k` rows by `n` columns. -/
abbrev Mat (k n : Nat) : Type := (⟨2, ![k, n]⟩ : Shape).Idx → EReal

/-- Row `i` of a matrix. -/
def rowOf {k n : Nat} (X : Mat k n) (i : Fin k) : Row n := fun j => X (ix2 i j)

/-- A row times a matrix. -/
def dense {k n : Nat} (W : Mat k n) (r : Row k) : Row n := fun j => ∑ l : Fin k, r l * W (ix2 l j)

/-- The rectified row. -/
def rect {n : Nat} (r : Row n) : Row n := fun j => max (r j) 0

/-- Two layers, the first one rectified. -/
def two {a b c : Nat} (W₁ : Mat a b) (W₂ : Mat b c) (r : Row a) : Row c := dense W₂ (rect (dense W₁ r))

/-- Three layers, the first two rectified. -/
def three {a b c d : Nat} (W₁ : Mat a b) (W₂ : Mat b c) (W₃ : Mat c d) (r : Row a) : Row d :=
  dense W₃ (rect (two W₁ W₂ r))

/-- The sum of the absolute differences of two rows. -/
def gap {n : Nat} (p q : Row n) : EReal := ∑ j : Fin n, max (p j - q j) (-(p j - q j))

end Cert.Layers

end
-- ==== Proof.Ref.Read.lean ====
/-
  The reference's stages read row by row, at biases that are zero.
-/
module

public import proofs.«01_k».proof.Proof.Ref.Stages
public import proofs.«01_k».proof.Proof.Common.Layers

@[expose] public section

set_option maxRecDepth 16384

noncomputable section

namespace Cert.Ref

open Idealize.ShloMosaic Cert.ReferenceIdeal Cert.ReferenceIdeal.Facts₀ Cert.ReferenceIdeal.Facts Cert.Layers

/-- The encoder's first layer on a row. -/
theorem enc1_row (x : Arr S4096x3072) (W : Arr S3072x2048) (b : Arr S2048) (hb : ∀ j, b j = 0) (i : Fin 4096) :
    rowOf (enc1 x W b) i = rect (dense W (rowOf x i)) := by
  funext j
  unfold rowOf rect dense
  pointwise [enc1, relu, bias2048]
  simp [hb, rowOf]

/-- A layer from 2048 to 2048 on a row. -/
theorem mid_row (h : Arr S4096x2048) (W : Arr S2048x2048) (b : Arr S2048) (hb : ∀ j, b j = 0) (i : Fin 4096) :
    rowOf (mid h W b) i = rect (dense W (rowOf h i)) := by
  funext j
  unfold rowOf rect dense
  pointwise [mid, relu, bias2048]
  simp [hb, rowOf]

/-- The encoder's last layer on a row. -/
theorem enc3_row (h : Arr S4096x2048) (W : Arr S2048x1024) (b : Arr S1024) (hb : ∀ j, b j = 0) (i : Fin 4096) :
    rowOf (enc3 h W b) i = dense W (rowOf h i) := by
  funext j
  unfold rowOf dense
  pointwise [enc3, bias1024]
  simp [hb, rowOf]

/-- A layer from the latent code to 2048 on a row. -/
theorem up_row (h : Arr S4096x1024) (W : Arr S1024x2048) (b : Arr S2048) (hb : ∀ j, b j = 0) (i : Fin 4096) :
    rowOf (up h W b) i = rect (dense W (rowOf h i)) := by
  funext j
  unfold rowOf rect dense
  pointwise [up, relu, bias2048]
  simp [hb, rowOf]

/-- The decoder's last layer on a row. -/
theorem dec3_row (h : Arr S4096x2048) (W : Arr S2048x3072) (b : Arr S3072) (hb : ∀ j, b j = 0) (i : Fin 4096) :
    rowOf (dec3 h W b) i = dense W (rowOf h i) := by
  funext j
  unfold rowOf dense
  pointwise [dec3, bias3072]
  simp [hb, rowOf]

/-- The expert's last layer on a row. -/
theorem out10_row (h : Arr S4096x2048) (W : Arr S2048x10) (b : Arr S10) (hb : ∀ j, b j = 0) (i : Fin 4096) :
    rowOf (out10 h W b) i = dense W (rowOf h i) := by
  funext j
  unfold rowOf dense
  pointwise [out10, bias10]
  simp [hb, rowOf]

end Cert.Ref

end
-- ==== Proof.Ref.Errs.lean ====
/-
  The reference's mean absolute reconstruction error, as a sum over the flattened image: the three image coordinates
  and the one flattened coordinate are the same row-major position.
-/
module

public import proofs.«01_k».proof.Proof.Ref.Read
public import Idealize.ShloMosaic.Lib.IdealHost
public import Idealize.ShloMosaic.Lib.Pipeline.Value

@[expose] public section

set_option maxRecDepth 16384

noncomputable section

namespace Cert.Ref

open Idealize.ShloMosaic Cert.ReferenceIdeal Cert.ReferenceIdeal.Facts₀ Cert.ReferenceIdeal.Facts Cert.Layers

/-- The image position of a flattened position. -/
def spot (n : Fin 4096) (k : Fin 3072) : S4096x3x32x32.Idx :=
  ix4 n (⟨k.val / 1024, by omega⟩ : Fin 3) (⟨k.val / 32 % 32, by omega⟩ : Fin 32) (⟨k.val % 32, by omega⟩ : Fin 32)

/-- The flattened position of an image position. -/
def flatten (i : S4096x3x32x32.Idx) : Fin 3072 :=
  ⟨(i 1).val * 1024 + (i 2).val * 32 + (i 3).val, by
    have h1 : (i 1).val < 3 := (i 1).isLt
    have h2 : (i 2).val < 32 := (i 2).isLt
    have h3 : (i 3).val < 32 := (i 3).isLt
    omega⟩

/-- A flattened image read at a position is the image there. -/
theorem flat_apply (x : Arr S4096x3x32x32) (n : Fin 4096) (k : Fin 3072) : flat x (ix2 n k) = x (spot n k) := by
  refine shapeCast_apply _ _ _ _ ?_
  rw [Shape.rowMajor_val_two, Shape.rowMajor_val_four]
  show ((n.val * 3 + k.val / 1024) * 32 + k.val / 32 % 32) * 32 + k.val % 32 = n.val * 3072 + k.val
  omega

/-- Flattened rows laid out as images, read at an image position, are the row at its flattened position. -/
theorem unflat_apply (r : Arr S4096x3072) (n : Fin 4096) (k : Fin 3072) :
    shapeCast S4096x3x32x32 r shapeCasts_S4096x3072_S4096x3x32x32 (spot n k) = r (ix2 n k) := by
  refine shapeCast_apply _ _ _ _ ?_
  rw [Shape.rowMajor_val_two, Shape.rowMajor_val_four]
  show n.val * 3072 + k.val = ((n.val * 3 + k.val / 1024) * 32 + k.val / 32 % 32) * 32 + k.val % 32
  omega

/-- An image position whose image is `n` is the image position of its flattened position. -/
theorem spot_flatten (i : S4096x3x32x32.Idx) (n : Fin 4096) (h : (i 0).val = n.val) : spot n (flatten i) = i := by
  have h1 : (i 1).val < 3 := (i 1).isLt
  have h2 : (i 2).val < 32 := (i 2).isLt
  have h3 : (i 3).val < 32 := (i 3).isLt
  funext a
  apply Fin.ext
  match a with
  | 0 => exact h.symm
  | 1 => show ((i 1).val * 1024 + (i 2).val * 32 + (i 3).val) / 1024 = (i 1).val; omega
  | 2 => show ((i 1).val * 1024 + (i 2).val * 32 + (i 3).val) / 32 % 32 = (i 2).val; omega
  | 3 => show ((i 1).val * 1024 + (i 2).val * 32 + (i 3).val) % 32 = (i 3).val; omega

/-- The flattened position of a flattened position's image position is itself. -/
theorem flatten_spot (n : Fin 4096) (k : Fin 3072) : flatten (spot n k) = k := by
  apply Fin.ext
  show k.val / 1024 * 1024 + k.val / 32 % 32 * 32 + k.val % 32 = k.val
  omega

/-- A sum over an image's three coordinates is the sum over the flattened coordinate. -/
theorem sum_image (f : S4096x3x32x32.Idx → EReal) (n : Fin 4096) :
    ∑ i ∈ Finset.univ.filter (fun i => reducesTo_S4096x3x32x32_S4096_d1_2_3.drop i = ix1 n), f i = ∑ k : Fin 3072, f (spot n k) := by
  have hd : ∀ i : S4096x3x32x32.Idx, (reducesTo_S4096x3x32x32_S4096_d1_2_3.drop i 0).val = (i 0).val := fun i =>
    Shape.ReducesTo.drop_apply_val_of_eq _ i 0 0
  have hm : ∀ i : S4096x3x32x32.Idx, i ∈ Finset.univ.filter (fun i => reducesTo_S4096x3x32x32_S4096_d1_2_3.drop i = ix1 n) →
      (i 0).val = n.val := fun i hi => by
    rw [← hd i, (Finset.mem_filter.1 hi).2]
    rfl
  refine Finset.sum_nbij' flatten (spot n) (fun _ _ => Finset.mem_univ _) (fun k _ => ?_)
    (fun i hi => spot_flatten i n (hm i hi)) (fun k _ => flatten_spot n k) (fun i hi => by rw [spot_flatten i n (hm i hi)])
  refine Finset.mem_filter.2 ⟨Finset.mem_univ _, funext fun b => ?_⟩
  obtain rfl : b = 0 := Subsingleton.elim _ _
  exact Fin.ext (hd _)

/-- An image's error: the gap between its decoded and its own flattened row, over 3072. -/
theorem errs_apply (r : Arr S4096x3072) (x : Arr S4096x3x32x32) (n : Fin 4096) :
    errs r x (ix1 n) = Ideal.div (gap (rowOf r n) (rowOf (flat x) n)) (Ideal.ofBits .f32 0x45400000#32) := by
  unfold errs
  rw [ValueIdx.hostDivf_apply, ValueIdx.hostReduceAdd_apply]
  refine congrArg₂ Ideal.div ?_ rfl
  unfold Ideal.hostReduceAdd
  rw [sum_image]
  unfold gap rowOf
  rw [show constant (F := Ideal) S_ .f32 0x00000000#32 (Shape.Idx.first h_S_) = (0 : EReal) from Ideal.ofBits_zero_f32, zero_add]
  refine Finset.sum_congr rfl fun k _ => ?_
  rw [flat_apply]
  show max (shapeCast S4096x3x32x32 r shapeCasts_S4096x3072_S4096x3x32x32 (spot n k) - x (spot n k))
    (-(shapeCast S4096x3x32x32 r shapeCasts_S4096x3072_S4096x3x32x32 (spot n k) - x (spot n k))) = _
  rw [unflat_apply]

end Cert.Ref

end
-- ==== Proof.Common.Finite.lean ====
/-
  Extended reals that are real numbers, and the layers' closure under being one: rows of reals through matrices of
  reals stay rows of reals.
-/
module

public import proofs.«01_k».proof.Proof.Common.Layers

@[expose] public section

noncomputable section

namespace Cert.Layers

open Idealize.ShloMosaic

/-- The extended real is a real number. -/
def IsReal (v : EReal) : Prop := ∃ r : ℝ, v = (r : EReal)

/-- Zero is a real number. -/
theorem IsReal.zero : IsReal 0 := ⟨0, EReal.coe_zero.symm⟩

/-- The negation of a real is a real. -/
theorem IsReal.neg {v : EReal} : IsReal v → IsReal (-v) := by
  rintro ⟨r, rfl⟩
  exact ⟨-r, (EReal.coe_neg r).symm⟩

/-- The sum of two reals is a real. -/
theorem IsReal.add {v w : EReal} : IsReal v → IsReal w → IsReal (v + w) := by
  rintro ⟨r, rfl⟩ ⟨s, rfl⟩
  exact ⟨r + s, (EReal.coe_add r s).symm⟩

/-- The difference of two reals is a real. -/
theorem IsReal.sub {v w : EReal} : IsReal v → IsReal w → IsReal (v - w) := by
  rintro ⟨r, rfl⟩ ⟨s, rfl⟩
  exact ⟨r - s, (EReal.coe_sub r s).symm⟩

/-- The product of two reals is a real. -/
theorem IsReal.mul {v w : EReal} : IsReal v → IsReal w → IsReal (v * w) := by
  rintro ⟨r, rfl⟩ ⟨s, rfl⟩
  exact ⟨r * s, (EReal.coe_mul r s).symm⟩

/-- The larger of two reals is a real. -/
theorem IsReal.max {v w : EReal} (hv : IsReal v) (hw : IsReal w) : IsReal (max v w) := by
  rcases max_choice v w with h | h <;> rw [h]
  · exact hv
  · exact hw

/-- A finite sum of reals is a real. -/
theorem IsReal.sum {n : Nat} (f : Fin n → EReal) (hf : ∀ i, IsReal (f i)) : IsReal (∑ i, f i) :=
  Finset.sum_induction f IsReal (fun _ _ => IsReal.add) IsReal.zero fun i _ => hf i

/-- A real over a real that is not zero is a real. -/
theorem IsReal.div {v : EReal} {c : ℝ} (hc : c ≠ 0) : IsReal v → IsReal (Ideal.div v (c : EReal)) := by
  rintro ⟨r, rfl⟩
  exact ⟨r * (1 / c), by rw [Ideal.div_coe hc, EReal.coe_mul]⟩

/-- A value whose absolute value is below the top is a real. -/
theorem IsReal.of_abs_lt_top {v : EReal} (h : Max.max v (-v) < ⊤) : IsReal v := by
  induction v with
  | bot => simp at h
  | coe r => exact ⟨r, rfl⟩
  | top => simp at h

/-- A row of reals times a matrix of reals is a row of reals. -/
theorem dense_real {k n : Nat} {W : Mat k n} (hW : ∀ i, IsReal (W i)) {r : Row k} (hr : ∀ i, IsReal (r i)) (j : Fin n) :
    IsReal (dense W r j) :=
  IsReal.sum _ fun l => (hr l).mul (hW _)

/-- A rectified row of reals is a row of reals. -/
theorem rect_real {n : Nat} {r : Row n} (hr : ∀ i, IsReal (r i)) (j : Fin n) : IsReal (rect r j) := (hr j).max IsReal.zero

/-- Three layers of reals keep a row of reals one. -/
theorem three_real {a b c d : Nat} {W₁ : Mat a b} {W₂ : Mat b c} {W₃ : Mat c d} (h₁ : ∀ i, IsReal (W₁ i))
    (h₂ : ∀ i, IsReal (W₂ i)) (h₃ : ∀ i, IsReal (W₃ i)) {r : Row a} (hr : ∀ i, IsReal (r i)) (j : Fin d) :
    IsReal (three W₁ W₂ W₃ r j) :=
  dense_real h₃ (rect_real (dense_real h₂ (rect_real (dense_real h₁ hr)))) j

/-- The gap between two rows of reals is a real. -/
theorem gap_real {n : Nat} {p q : Row n} (hp : ∀ i, IsReal (p i)) (hq : ∀ i, IsReal (q i)) : IsReal (gap p q) :=
  IsReal.sum _ fun j => ((hp j).sub (hq j)).max ((hp j).sub (hq j)).neg

end Cert.Layers

end
-- ==== Proof.Ref.Gate.lean ====
/-
  The reference's five results over one gate: with a single gate the least error is the error, the chosen gate is
  number 0, every image goes to it, and the softmax of a real relevance is 1.
-/
module

public import proofs.«01_k».proof.Proof.Ref.Read
public import proofs.«01_k».proof.Proof.Common.Finite
public import Idealize.ShloMosaic.Lib.Routing.OpsOrder
public import Idealize.ShloMosaic.PureOps.Reduce
public import Idealize.ShloMosaic.PureOps.Ideal.Laws

@[expose] public section

set_option maxRecDepth 16384

noncomputable section

namespace Cert.Ref

open Idealize.ShloMosaic Cert.ReferenceIdeal Cert.ReferenceIdeal.Facts₀ Cert.ReferenceIdeal.Facts Cert.Layers

/-- The pattern of the positive infinity is the top extended real. -/
theorem top_f32 : Ideal.ofBits .f32 0x7F800000#32 = ⊤ := by simp [Ideal.ofBits, Ideal.ieee]

/-- The pattern of the negative infinity is the bottom extended real. -/
theorem bot_f32 : Ideal.ofBits .f32 0xFF800000#32 = ⊥ := by simp [Ideal.ofBits, Ideal.ieee]

/-- The pattern of two is the real 2. -/
theorem two_f32 : Ideal.ofBits .f32 0x40000000#32 = ((2 : ℝ) : EReal) := by
  simp [Ideal.ofBits, Ideal.ieee, -EReal.coe_mul]; norm_num

/-- The least error over one gate is that gate's error. -/
theorem least_stacked (e : Arr S4096) : least (stacked e) = e := by
  funext j
  idx_vars j
  pointwise [least, stacked]
  simp [top_f32]

/-- A fold of the arg-min's body over pairs whose index is 0 keeps the index 0. -/
theorem foldl_argmin_snd (l : List (Ideal .f32 × BitVec 32)) (hl : ∀ p ∈ l, p.2 = 0#32) (a : Ideal .f32 × BitVec 32)
    (ha : a.2 = 0#32) : (l.foldl (reducer_argmin_f32_i32 (F := Ideal)) a).2 = 0#32 := by
  induction l generalizing a with
  | nil => exact ha
  | cons p l ih =>
    refine ih (fun q hq => hl q (List.mem_cons_of_mem _ hq)) _ ?_
    have hp := hl p List.mem_cons_self
    simp only [reducer_argmin_f32_i32, Scalar.select, ha, hp, ite_self]

/-- The chosen gate is number 0. -/
theorem gate_eq (e : Arr S1x4096) : gate e = fun _ => 0#32 := by
  funext j
  unfold gate
  rw [Ideal.argReduce_eq_reduce2, Host.reduce2_eq_foldl_fiber]
  refine foldl_argmin_snd _ (fun p hp => ?_) _ rfl
  unfold Host.argReduceFiber at hp
  obtain ⟨i, -, rfl⟩ := List.mem_map.1 hp
  generalize S1x4096.rowMajor.symm i = k
  idx_vars k
  pointwise

/-- Every image goes to gate 0. -/
theorem mask_zero : mask (fun _ => 0#32) = fun _ => 1#1 := by
  funext j
  idx_vars j
  pointwise [mask]

/-- With every image sent to the expert its logits are kept. -/
theorem gated_one (o : Arr S4096x10) : gated (fun _ => 1#1) o = o := by
  funext j
  idx_vars j
  pointwise [gated]

/-- The favoured relevance of real errors is real. -/
theorem favoured_real (e : Arr S1x4096) (he : ∀ i, IsReal (e i)) (i : S1x4096.Idx) : IsReal (favoured (relevance e) i) := by
  have half : ∀ v : EReal, IsReal v → IsReal (Ideal.div v (Ideal.ofBits .f32 0x40000000#32)) := fun v hv => by
    rw [two_f32]
    exact hv.div (by norm_num)
  have hr : ∀ i, IsReal (relevance e i) := fun i => half _ (he i).neg
  exact Routing.scatter_forall _ _ IsReal (fun _ _ _ hb => hb) _ _ _ hr (fun j => half _ (hr _)) i

/-- The softmax over one gate of a real relevance is 1. -/
theorem scores_one (f : Arr S1x4096) (hf : ∀ i, IsReal (f i)) : scores f = fun _ => 1 := by
  funext j
  idx_vars j
  obtain rfl : j0 = 0 := Subsingleton.elim _ _
  obtain ⟨r, h⟩ := hf (ix2 0 j1)
  have hd : (r : EReal) - (r : EReal) = ((0 : ℝ) : EReal) := by rw [← EReal.coe_sub, sub_self]
  have hq : Ideal.div 1 1 = 1 := by
    have := Ideal.div_coe (one_ne_zero : (1 : ℝ) ≠ 0) 1
    simpa using this
  have he : Ideal.exp 0 = 1 := by simpa using Ideal.exp_coe 0
  pointwise [scores, exps, largest]
  simp [bot_f32, h, hd, he, hq]

end Cert.Ref

end
-- ==== Proof.Ref.Rows.lean ====
/-
  The rows of the reference's latent codes, reconstructions and expert logits as layers without biases, and the
  reality of the errors over real arguments.
-/
module

public import proofs.«01_k».proof.Proof.Ref.Errs
public import proofs.«01_k».proof.Proof.Ref.Gate

@[expose] public section

set_option maxRecDepth 16384

noncomputable section

namespace Cert.Ref

open Idealize.ShloMosaic Cert.ReferenceIdeal Cert.ReferenceIdeal.Facts₀ Cert.ReferenceIdeal.Facts Cert.Layers

/-- The pattern of 3072, the number of entries of an image, is the real 3072. -/
theorem count_f32 : Ideal.ofBits .f32 0x45400000#32 = ((3072 : ℝ) : EReal) := by
  simp [Ideal.ofBits, Ideal.ieee, -EReal.coe_mul]; norm_num

/-- A latent code is three layers of the image. -/
theorem latent_row (x : Arr S4096x3x32x32) (W₁ : Arr S3072x2048) (b₁ : Arr S2048) (W₂ : Arr S2048x2048) (b₂ : Arr S2048)
    (W₃ : Arr S2048x1024) (b₃ : Arr S1024) (h₁ : ∀ j, b₁ j = 0) (h₂ : ∀ j, b₂ j = 0) (h₃ : ∀ j, b₃ j = 0) (n : Fin 4096) :
    rowOf (latent x W₁ b₁ W₂ b₂ W₃ b₃) n = three W₁ W₂ W₃ (rowOf (flat x) n) := by
  unfold latent
  rw [enc3_row _ _ _ h₃, mid_row _ _ _ h₂, enc1_row _ _ _ h₁]
  rfl

/-- A reconstruction is three layers of the latent code. -/
theorem recon_row (l : Arr S4096x1024) (W₁ : Arr S1024x2048) (b₁ : Arr S2048) (W₂ : Arr S2048x2048) (b₂ : Arr S2048)
    (W₃ : Arr S2048x3072) (b₃ : Arr S3072) (h₁ : ∀ j, b₁ j = 0) (h₂ : ∀ j, b₂ j = 0) (h₃ : ∀ j, b₃ j = 0) (n : Fin 4096) :
    rowOf (recon l W₁ b₁ W₂ b₂ W₃ b₃) n = three W₁ W₂ W₃ (rowOf l n) := by
  unfold recon
  rw [dec3_row _ _ _ h₃, mid_row _ _ _ h₂, up_row _ _ _ h₁]
  rfl

/-- The codes repeated over one gate and flattened again are the codes. -/
theorem single_gate (l : Arr S4096x1024) :
    shapeCast S4096x1024 (broadcastInDim S1x4096x1024 ![1, 2] bcast_S4096x1024_S1x4096x1024_1_2 l)
      shapeCasts_S1x4096x1024_S4096x1024 = l := by
  funext j
  idx_vars j
  pointwise

/-- An image's expert logits are two layers of its latent code. -/
theorem expert_row (l : Arr S4096x1024) (W₁ : Arr S1024x2048) (b₁ : Arr S2048) (W₂ : Arr S2048x10) (b₂ : Arr S10)
    (h₁ : ∀ j, b₁ j = 0) (h₂ : ∀ j, b₂ j = 0) (n : Fin 4096) :
    rowOf (expert l W₁ b₁ W₂ b₂) n = two W₁ W₂ (rowOf l n) := by
  unfold expert
  rw [single_gate, out10_row _ _ _ h₂, up_row _ _ _ h₁]
  rfl

/-- The error of an image is real when the image and its reconstruction are. -/
theorem errs_real (r : Arr S4096x3072) (x : Arr S4096x3x32x32) (n : Fin 4096) (hr : ∀ k, IsReal (rowOf r n k))
    (hx : ∀ i, IsReal (x i)) : IsReal (errs r x (ix1 n)) := by
  rw [errs_apply, count_f32]
  have hf : ∀ k, IsReal (rowOf (flat x) n k) := fun k => by
    rw [show rowOf (flat x) n k = x (spot n k) from flat_apply x n k]
    exact hx _
  exact (gap_real hr hf).div (by norm_num)

/-- The error stacked over one gate is real when the errors are. -/
theorem stacked_real (e : Arr S4096) (he : ∀ n, IsReal (e (ix1 n))) (i : S1x4096.Idx) : IsReal (stacked e i) := by
  idx_vars i
  pointwise [stacked]
  exact he _

end Cert.Ref

end
-- ==== Proof.Tie.Args.lean ====
/-
  What the claims' preconditions say of the arguments: every bias is zero, and, where asked, the images and the weights
  of the encoder and the decoder are reals.
-/
module

public import proofs.«01_k».proof.Defs
public import proofs.«01_k».proof.Proof.Ref.Rows

@[expose] public section

set_option maxRecDepth 16384

noncomputable section

namespace Cert.Tie

open Idealize.ShloMosaic Cert.KernelIdeal Cert.Layers

variable (m : (ℓ : Loc nD τ sig) → Buf (Elt Ideal) ℓ)

/-- Every bias of device `c` is zero. -/
structure Unbiased (c : Dev nD) : Prop where
  enc1 : ∀ j : S2048.Idx, m ((c.tc : Thread nD τ).loc main_arg2) j = (0 : EReal)
  enc2 : ∀ j : S2048.Idx, m ((c.tc : Thread nD τ).loc main_arg4) j = (0 : EReal)
  enc3 : ∀ j : S1024.Idx, m ((c.tc : Thread nD τ).loc main_arg6) j = (0 : EReal)
  dec1 : ∀ j : S2048.Idx, m ((c.tc : Thread nD τ).loc main_arg8) j = (0 : EReal)
  dec2 : ∀ j : S2048.Idx, m ((c.tc : Thread nD τ).loc main_arg10) j = (0 : EReal)
  dec3 : ∀ j : S3072.Idx, m ((c.tc : Thread nD τ).loc main_arg12) j = (0 : EReal)
  exp1 : ∀ j : S2048.Idx, m ((c.tc : Thread nD τ).loc main_arg14) j = (0 : EReal)
  exp2 : ∀ j : S10.Idx, m ((c.tc : Thread nD τ).loc main_arg16) j = (0 : EReal)

/-- The images and the weights of the encoder and the decoder of device `c` are real. -/
structure Real (c : Dev nD) : Prop where
  image : ∀ j : S4096x3x32x32.Idx, IsReal (m ((c.tc : Thread nD τ).loc main_arg0) j : EReal)
  enc1 : ∀ j : S3072x2048.Idx, IsReal (m ((c.tc : Thread nD τ).loc main_arg1) j : EReal)
  enc2 : ∀ j : S2048x2048.Idx, IsReal (m ((c.tc : Thread nD τ).loc main_arg3) j : EReal)
  enc3 : ∀ j : S2048x1024.Idx, IsReal (m ((c.tc : Thread nD τ).loc main_arg5) j : EReal)
  dec1 : ∀ j : S1024x2048.Idx, IsReal (m ((c.tc : Thread nD τ).loc main_arg7) j : EReal)
  dec2 : ∀ j : S2048x2048.Idx, IsReal (m ((c.tc : Thread nD τ).loc main_arg9) j : EReal)
  dec3 : ∀ j : S2048x3072.Idx, IsReal (m ((c.tc : Thread nD τ).loc main_arg11) j : EReal)

/-- A bit of a decided proposition that is 1 says the proposition. -/
theorem of_bit (p : Prop) [Decidable p] (h : BitVec.ofBool (decide p) = 1#1) : p := by
  by_contra hp
  rw [decide_eq_false hp] at h
  exact absurd h (by decide)

/-- An array that compares equal to zero everywhere is zero. -/
theorem zero_of_oeq {s : Shape} (b : FVec Ideal s .f32) (hs : S_.BroadcastsInDim s ![])
    (h : cmpf .oeq b (broadcastInDim s ![] hs (constant (F := Ideal) S_ .f32 0x00000000#32)) = fun _ => 1#1) (j : s.Idx) :
    b j = (0 : EReal) := by
  have e := of_bit _ (congrFun h j)
  exact e.trans Ideal.ofBits_zero_f32

/-- An array whose absolute value is below the infinity everywhere is real. -/
theorem real_of_olt {s : Shape} (a : FVec Ideal s .f32) (hs : S_.BroadcastsInDim s ![])
    (h : cmpf .olt (Host.absf a) (broadcastInDim s ![] hs (constant (F := Ideal) S_ .f32 0x7F800000#32)) = fun _ => 1#1) (j : s.Idx) :
    IsReal (a j : EReal) := by
  have e := of_bit _ (congrFun h j)
  exact IsReal.of_abs_lt_top (lt_of_lt_of_eq e Cert.Ref.top_f32)

/-- The first precondition's stated facts. -/
theorem facts_no_biases : Cert.Pre_no_biases.Facts := by constructor <;> decide

/-- The second precondition's stated facts. -/
theorem facts_no_biases_and_finite : Cert.Pre_no_biases_and_finite.Facts := by constructor <;> decide

/-- The stated facts of the mask of the gates and masks. -/
theorem facts_gate_and_mask : Cert.On_gate_and_mask.Facts := by constructor <;> decide

/-- The stated facts of the mask of all but the scores. -/
theorem facts_all_but_scores : Cert.On_all_but_scores.Facts := by constructor <;> decide

/-- The first precondition says that the biases are zero. -/
theorem unbiased [hP : Cert.Pre_no_biases.Facts] (h : Cert.Pre_KernelIdeal_no_biases m) (c : Dev nD) : Unbiased m c := by
  obtain ⟨h1, h2, h3, h4, h5, h6, h7, h8⟩ := h c
  exact ⟨zero_of_oeq _ _ h1, zero_of_oeq _ _ h2, zero_of_oeq _ _ h3, zero_of_oeq _ _ h4, zero_of_oeq _ _ h5,
    zero_of_oeq _ _ h6, zero_of_oeq _ _ h7, zero_of_oeq _ _ h8⟩

/-- The second precondition says that the biases are zero and the images and weights real. -/
theorem unbiased_real [hP : Cert.Pre_no_biases_and_finite.Facts] (h : Cert.Pre_KernelIdeal_no_biases_and_finite m) (c : Dev nD) :
    Unbiased m c ∧ Real m c := by
  obtain ⟨h1, h2, h3, h4, h5, h6, h7, h8, r1, r2, r3, r4, r5, r6, r7⟩ := h c
  exact ⟨⟨zero_of_oeq _ _ h1, zero_of_oeq _ _ h2, zero_of_oeq _ _ h3, zero_of_oeq _ _ h4, zero_of_oeq _ _ h5,
    zero_of_oeq _ _ h6, zero_of_oeq _ _ h7, zero_of_oeq _ _ h8⟩, ⟨real_of_olt _ _ r1, real_of_olt _ _ r2, real_of_olt _ _ r3,
    real_of_olt _ _ r4, real_of_olt _ _ r5, real_of_olt _ _ r6, real_of_olt _ _ r7⟩⟩

end Cert.Tie

end
-- ==== Proof.Ker.Block.lean ====
/-
  What the kernel computes for one block of 512 images, row by row: over the extended reals its rounded formats change
  nothing, so each row goes through the plain layers.
-/
module

public import proofs.«01_k».proof.Proof.Gen.KernelIdeal.Skeleton
public import proofs.«01_k».proof.Proof.Common.Layers

@[expose] public section

set_option maxRecDepth 16384

noncomputable section

namespace Cert.Ker

open Idealize.ShloMosaic Cert.KernelIdeal Cert.KernelIdeal.Facts₀ Cert.KernelIdeal.Facts Cert.KernelIdeal.Gen Cert.Layers

/-- A block's latent codes: each row through the encoder's three layers. -/
theorem latent_row (v0 : Vec Ideal S512x3072 .f32) (v3 : Vec Ideal S3072x2048 .bf16) (v9 : Vec Ideal S2048x2048 .bf16)
    (v15 : Vec Ideal S2048x1024 .bf16) (i : Fin 512) :
    rowOf (k0_pay3 (F := Ideal) v0 v3 v9 v15) i = three v3 v9 v15 (rowOf v0 i) := by
  funext j
  unfold rowOf three two rect dense
  pointwise [k0_pay3, k0_pay2]

/-- A block's logits: each row's latent code through the expert's two layers. -/
theorem logits_row (v0 : Vec Ideal S512x3072 .f32) (v3 : Vec Ideal S3072x2048 .bf16) (v9 : Vec Ideal S2048x2048 .bf16)
    (v15 : Vec Ideal S2048x1024 .bf16) (v19 : Vec Ideal S1024x2048 .bf16) (v25 : Vec Ideal S2048x128 .bf16) (i : Fin 512) :
    rowOf (k0_pay4 (F := Ideal) v0 v3 v9 v15 v19 v25) i = two v19 v25 (three v3 v9 v15 (rowOf v0 i)) := by
  rw [← latent_row]
  funext j
  unfold rowOf two rect dense
  pointwise [k0_pay4]

/-- A block's errors: the gap between each row's code decoded and the row, over 3072. -/
theorem err_row (v0 : Vec Ideal S512x3072 .f32) (v3 : Vec Ideal S3072x2048 .bf16) (v9 : Vec Ideal S2048x2048 .bf16)
    (v15 : Vec Ideal S2048x1024 .bf16) (v31 : Vec Ideal S1024x2048 .fp8e4m3) (v37 : Vec Ideal S2048x2048 .fp8e4m3)
    (v43 : Vec Ideal S2048x3072 .fp8e4m3) (i : Fin 512) :
    k0_pay1 (F := Ideal) (k0_pay2 v0) (k0_pay5 v0 v3 v9 v15) (k0_pay6 v31) (constant S512x2048 .f32 0x00000000#32) v37 v43 (ix1 i)
      = Ideal.div (gap (three v31 v37 v43 (three v3 v9 v15 (rowOf v0 i))) (rowOf v0 i)) (Ideal.ofBits .f32 0x45400000#32) := by
  rw [← latent_row]
  unfold gap rowOf three two rect dense
  pointwise [k0_pay1, k0_pay2, k0_pay5, k0_pay6]
  rfl

end Cert.Ker

end
-- ==== Proof.Ker.Arrays.lean ====
/-
  The kernel's two result arrays after its run, as functions of the arrays its region finds: block `t` of each holds
  the rows of images `512 t` to `512 t + 511`.
-/
module

public import proofs.«01_k».proof.Proof.Gen.KernelIdeal.Frame
public import proofs.«01_k».proof.Proof.Ker.Block
public import Idealize.ShloMosaic.Lib.Pipeline.ValueKit

@[expose] public section

set_option maxRecDepth 16384

noncomputable section

namespace Cert.Ker

open Idealize.ShloMosaic Idealize.ShloMosaic.Pipeline Cert.KernelIdeal Cert.KernelIdeal.Facts₀ Cert.KernelIdeal.Facts Cert.KernelIdeal.Gen
open Cert.Layers

variable (m : (ℓ : Loc nD τ sig) → Buf (Elt Ideal) ℓ) (c : Dev nD)

/-- The latent code of image `n`. -/
def code (n : Fin 4096) : Row 1024 :=
  three (V m c main_v1 : Mat 3072 2048) (V m c main_v2 : Mat 2048 2048) (V m c main_v3 : Mat 2048 1024) (rowOf (V m c main_v0 : Mat 4096 3072) n)

/-- The padded logits of every image. -/
def logits : (⟨2, ![4096, 128]⟩ : Shape).Idx → EReal := fun i =>
  two (V m c main_v7 : Mat 1024 2048) (V m c main_v11 : Mat 2048 128) (code m c (i 0)) (i 1)

/-- The error of every image. -/
def errors : (⟨1, ![4096]⟩ : Shape).Idx → EReal := fun i =>
  Ideal.div (gap (three (V m c main_v4 : Mat 1024 2048) (V m c main_v5 : Mat 2048 2048) (V m c main_v6 : Mat 2048 3072) (code m c (i 0)))
    (rowOf (V m c main_v0 : Mat 4096 3072) (i 0))) (Ideal.ofBits .f32 0x45400000#32)

/-- The image block of point `t` is the `t`-th. -/
theorem index0 : ∀ t : Fin grid0.N, win0_0.index t = ![t.val, 0] := by decide +kernel
/-- The logits' block of point `t` is the `t`-th. -/
theorem index9 : ∀ t : Fin grid0.N, win0_9.index t = ![t.val, 0] := by decide +kernel
/-- The errors' block of point `t` is the `t`-th. -/
theorem index10 : ∀ t : Fin grid0.N, win0_10.index t = ![t.val] := by decide +kernel
/-- The first encoder weights are one block. -/
theorem index1 : ∀ t : Fin grid0.N, win0_1.index t = ![0, 0] := by decide +kernel
/-- The second encoder weights are one block. -/
theorem index2 : ∀ t : Fin grid0.N, win0_2.index t = ![0, 0] := by decide +kernel
/-- The third encoder weights are one block. -/
theorem index3 : ∀ t : Fin grid0.N, win0_3.index t = ![0, 0] := by decide +kernel
/-- The first decoder weights are one block. -/
theorem index4 : ∀ t : Fin grid0.N, win0_4.index t = ![0, 0] := by decide +kernel
/-- The second decoder weights are one block. -/
theorem index5 : ∀ t : Fin grid0.N, win0_5.index t = ![0, 0] := by decide +kernel
/-- The third decoder weights are one block. -/
theorem index6 : ∀ t : Fin grid0.N, win0_6.index t = ![0, 0] := by decide +kernel
/-- The first expert weights are one block. -/
theorem index7 : ∀ t : Fin grid0.N, win0_7.index t = ![0, 0] := by decide +kernel
/-- The padded second expert weights are one block. -/
theorem index8 : ∀ t : Fin grid0.N, win0_8.index t = ![0, 0] := by decide +kernel

/-- Point `t`'s block of the first encoder weights is all of them. -/
theorem iblk1 (t : Fin cfg0.N) : (iblk m c 1 t : Mat 3072 2048) = V m c main_v1 := by
  funext y
  blk_point [iblk, index1]

/-- Point `t`'s block of the second encoder weights is all of them. -/
theorem iblk2 (t : Fin cfg0.N) : (iblk m c 2 t : Mat 2048 2048) = V m c main_v2 := by
  funext y
  blk_point [iblk, index2]

/-- Point `t`'s block of the third encoder weights is all of them. -/
theorem iblk3 (t : Fin cfg0.N) : (iblk m c 3 t : Mat 2048 1024) = V m c main_v3 := by
  funext y
  blk_point [iblk, index3]

/-- Point `t`'s block of the first decoder weights is all of them. -/
theorem iblk4 (t : Fin cfg0.N) : (iblk m c 4 t : Mat 1024 2048) = V m c main_v4 := by
  funext y
  blk_point [iblk, index4]

/-- Point `t`'s block of the second decoder weights is all of them. -/
theorem iblk5 (t : Fin cfg0.N) : (iblk m c 5 t : Mat 2048 2048) = V m c main_v5 := by
  funext y
  blk_point [iblk, index5]

/-- Point `t`'s block of the third decoder weights is all of them. -/
theorem iblk6 (t : Fin cfg0.N) : (iblk m c 6 t : Mat 2048 3072) = V m c main_v6 := by
  funext y
  blk_point [iblk, index6]

/-- Point `t`'s block of the first expert weights is all of them. -/
theorem iblk7 (t : Fin cfg0.N) : (iblk m c 7 t : Mat 1024 2048) = V m c main_v7 := by
  funext y
  blk_point [iblk, index7]

/-- Point `t`'s block of an array of the padded second expert weights' shape is all of it. -/
theorem read8 (t : Fin cfg0.N) (f : Buf (Elt Ideal) ((cfg0.win 8).arr.view.loc (c.tc : Thread nD τ))) :
    (((cfg0.win 8).blk t).view.read (Elt Ideal) f : Mat 2048 128) = f := by
  funext y
  refine congrArg f (funext fun a => Fin.ext ?_)
  match a with
  | 0 => blk_simp [index8]
  | 1 => blk_simp [index8]

/-- Point `t`'s block of the padded second expert weights is all of them. -/
theorem iblk8 (t : Fin cfg0.N) : (iblk m c 8 t : Mat 2048 128) = V m c main_v11 := read8 c t _

/-- Row `i` of point `t`'s image block is row `512 t + i` of the images. -/
theorem iblk0 (t : Fin cfg0.N) (i : Fin 512) (n : Fin 4096) (hn : n.val = t.val * 512 + i.val) :
    rowOf (iblk m c 0 t : Mat 512 3072) i = rowOf (V m c main_v0 : Mat 4096 3072) n := by
  funext k
  unfold rowOf
  blk_simp [iblk, index0]
  refine congrArg (V m c main_v0) (funext fun a => Fin.ext ?_)
  match a with
  | 0 => blk_simp [index0]; exact hn.symm
  | 1 => blk_simp [index0]

/-- A block's latent codes are its images' latent codes. -/
theorem code_row (t : Fin cfg0.N) (i : Fin 512) (n : Fin 4096) (hn : n.val = t.val * 512 + i.val) :
    three (iblk m c 1 t : Mat 3072 2048) (iblk m c 2 t : Mat 2048 2048) (iblk m c 3 t : Mat 2048 1024)
      (rowOf (iblk m c 0 t : Mat 512 3072) i) = code m c n := by
  rw [iblk1, iblk2, iblk3, iblk0 m c t i n hn]
  rfl

/-- The array of logits after the run: block `t` written back is block `t` of `logits`, and the blocks cover it. -/
theorem logits_eq : (dats m 0 c).arrAt 9 cfg0.N = logits m c := by
  refine (dats m 0 c).arrAt_eq_of_covers 9 _ (by decide +kernel) fun t hf y => ?_
  obtain ⟨i, j, rfl⟩ : ∃ (i : Fin 512) (j : Fin 128), y = ix2 i j := ⟨y 0, y 1, eq_ix2 y⟩
  blk_simp
  rw [after0_9]
  frame_out
  have hn : t.val * 512 + i.val < 4096 := by
    have ht : t.val < 8 := t.isLt
    omega
  have he : ((win0_9.blk t).view.emb (ix2 i j)) = ix2 (⟨t.val * 512 + i.val, hn⟩ : Fin 4096) j := funext fun a => Fin.ext (by
    match a with
    | 0 => blk_simp [index9]
    | 1 => blk_simp [index9])
  refine Eq.trans ?_ (congrArg (logits m c) he).symm
  refine (congrFun (logits_row _ _ _ _ _ _ i) j).trans ?_
  rw [code_row m c t i ⟨_, hn⟩ rfl]
  rw [iblk7, iblk8]
  rfl

/-- The array of errors after the run: block `t` written back is block `t` of `errors`, and the blocks cover it. -/
theorem errors_eq : (dats m 0 c).arrAt 10 cfg0.N = errors m c := by
  refine (dats m 0 c).arrAt_eq_of_covers 10 _ (by decide +kernel) fun t hf y => ?_
  obtain ⟨i, rfl⟩ : ∃ i : Fin 512, y = ix1 i := ⟨y 0, eq_ix1 y⟩
  blk_simp
  rw [after0_10]
  frame_out
  have hn : t.val * 512 + i.val < 4096 := by
    have ht : t.val < 8 := t.isLt
    omega
  have he : ((win0_10.blk t).view.emb (ix1 i)) = ix1 (⟨t.val * 512 + i.val, hn⟩ : Fin 4096) := funext fun a => Fin.ext (by
    match a with
    | 0 => blk_simp [index10])
  refine Eq.trans ?_ (congrArg (errors m c) he).symm
  refine (err_row _ _ _ _ _ _ _ i).trans ?_
  rw [code_row m c t i ⟨_, hn⟩ rfl, iblk0 m c t i ⟨_, hn⟩ rfl]
  rw [iblk4, iblk5, iblk6]
  rfl

end Cert.Ker

end
-- ==== Proof.Ker.Entry.lean ====
/-
  What the kernel's region finds in its operands: the arguments, flattened or converted, which over the extended reals
  changes no value; the second expert weights stand in the first ten columns of the padded matrix.
-/
module

public import proofs.«01_k».proof.Proof.Ker.Arrays
public import Idealize.ShloMosaic.Lib.Routing.OpsSet
public import Idealize.ShloMosaic.Lib.StableHlo.RunRead

@[expose] public section

set_option maxRecDepth 16384

noncomputable section

namespace Cert.Ker

open Idealize.ShloMosaic Idealize.ShloMosaic.Pipeline Cert.KernelIdeal Cert.KernelIdeal.Gen
open Cert.Layers

variable (m : (ℓ : Loc nD τ sig) → Buf (Elt Ideal) ℓ) (c : Dev nD)

/-- The images, flattened. -/
theorem entry0 : V m c main_v0 = shapeCast S4096x3072 (m ((c.tc : Thread nD τ).loc main_arg0)) shapeCasts_S4096x3x32x32_S4096x3072 := by
  entry_read
  rfl

/-- The first encoder weights. -/
theorem entry1 : (V m c main_v1 : Mat 3072 2048) = m ((c.tc : Thread nD τ).loc main_arg1) := by
  entry_read
  rfl

/-- The second encoder weights. -/
theorem entry2 : (V m c main_v2 : Mat 2048 2048) = m ((c.tc : Thread nD τ).loc main_arg3) := by
  entry_read
  rfl

/-- The third encoder weights. -/
theorem entry3 : (V m c main_v3 : Mat 2048 1024) = m ((c.tc : Thread nD τ).loc main_arg5) := by
  entry_read
  rfl

/-- The first decoder weights. -/
theorem entry4 : (V m c main_v4 : Mat 1024 2048) = m ((c.tc : Thread nD τ).loc main_arg7) := by
  entry_read
  rfl

/-- The second decoder weights. -/
theorem entry5 : (V m c main_v5 : Mat 2048 2048) = m ((c.tc : Thread nD τ).loc main_arg9) := by
  entry_read
  rfl

/-- The third decoder weights. -/
theorem entry6 : (V m c main_v6 : Mat 2048 3072) = m ((c.tc : Thread nD τ).loc main_arg11) := by
  entry_read
  rfl

/-- The first expert weights. -/
theorem entry7 : (V m c main_v7 : Mat 1024 2048) = m ((c.tc : Thread nD τ).loc main_arg13) := by
  entry_read
  rfl

/-- The scatter of ten columns into a matrix at column 0, read in those columns, is the columns. -/
theorem pad_apply (x : S2048x128.Idx → EReal) (u : S2048x10.Idx → EReal) (l : Fin 2048) (j : Fin 10) :
    Host.scatter scatter_S2048x128_S1_S2048x10_01_n_1_0 (fun _ b => b) x (broadcastInDim S1 ![] bcast_S_S1 (constantI S_ 32 0#32)) u
      (ix2 l (⟨j.val, by omega⟩ : Fin 128)) = u (ix2 l j) := by
  have hl : ∀ k : S2048x10.Idx, ∀ ι : S2048x128.Idx, scatter_S2048x128_S1_S2048x10_01_n_1_0.resultIdx? k
      (broadcastInDim S1 ![] bcast_S_S1 (constantI S_ 32 0#32)) = some ι ↔ (k 0).val = (ι 0).val ∧ (k 1).val = (ι 1).val := fun k ι => by
    have s0 : scatter_S2048x128_S1_S2048x10_01_n_1_0.start k (broadcastInDim S1 ![] bcast_S_S1 (constantI S_ 32 0#32)) 0 = 0 := rfl
    have s1 : scatter_S2048x128_S1_S2048x10_01_n_1_0.start k (broadcastInDim S1 ![] bcast_S_S1 (constantI S_ 32 0#32)) 1 = 0 := rfl
    have w0 : scatter_S2048x128_S1_S2048x10_01_n_1_0.window k 0 = (k 0).val := rfl
    have w1 : scatter_S2048x128_S1_S2048x10_01_n_1_0.window k 1 = (k 1).val := rfl
    rw [Routing.resultIdx?_eq_some]
    constructor
    · intro h
      have h0 := h 0
      have h1 := h 1
      rw [s0, w0] at h0
      rw [s1, w1] at h1
      omega
    · intro h a
      match a with
      | 0 => rw [s0, w0]; omega
      | 1 => rw [s1, w1]; omega
  refine Routing.scatter_set_hit _ _ _ _ _ _ (fun k hk => ?_) (ix2 l j) ((hl _ _).2 ⟨rfl, rfl⟩)
  obtain ⟨h0, h1⟩ := (hl _ _).1 hk
  refine congrArg u (funext fun a => Fin.ext ?_)
  match a with
  | 0 => exact h0
  | 1 => exact h1

/-- The padded second expert weights are the scatter of the weights into zeros. -/
theorem entry11_scatter : (V m c main_v11 : Mat 2048 128) = Host.scatter scatter_S2048x128_S1_S2048x10_01_n_1_0 (fun _ b => b)
    (broadcastInDim S2048x128 ![] bcast_S_S2048x128 (constant (F := Ideal) S_ .bf16 0x0000#16) : Mat 2048 128)
    (broadcastInDim S1 ![] bcast_S_S1 (constantI S_ 32 0#32)) (m ((c.tc : Thread nD τ).loc main_arg15)) := by
  show StableHlo.after hostOps0 (fun b => m (c, b)) (Proc.tc.devRef main_v11) = _
  after_reads_simp
  rfl

/-- The padded second expert weights in their first ten columns. -/
theorem entry11 (l : Fin 2048) (j : Fin 10) :
    (V m c main_v11 : Mat 2048 128) (ix2 l (⟨j.val, by omega⟩ : Fin 128)) = m ((c.tc : Thread nD τ).loc main_arg15) (ix2 l j) := by
  rw [entry11_scatter]
  exact pad_apply _ _ l j

end Cert.Ker

end
-- ==== Proof.Tie.Results.lean ====
/-
  The reference's five results from memories agreeing on the arguments with the kernel's, when the biases are zero:
  each is the kernel's.
-/
module

public import proofs.«01_k».proof.Proof.Tie.Args
public import proofs.«01_k».proof.Proof.Ker.Entry
public import proofs.«01_k».proof.Proof.Ref.Run
public import proofs.«01_k».proof.Proof.Gen.KernelIdeal.Run

@[expose] public section

set_option maxRecDepth 16384

noncomputable section

namespace Cert.Tie

open Idealize.ShloMosaic Cert.KernelIdeal Cert.KernelIdeal.Gen Cert.Layers

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The images of device `c`. -/
abbrev images : Cert.Ref.Arr S4096x3x32x32 := m ((c.tc : Thread nD τ).loc main_arg0)

/-- The latent code of image `n`, from the arguments. -/
def codeOf (n : Fin 4096) : Row 1024 :=
  three (m ((c.tc : Thread nD τ).loc main_arg1) : Mat 3072 2048) (m ((c.tc : Thread nD τ).loc main_arg3) : Mat 2048 2048)
    (m ((c.tc : Thread nD τ).loc main_arg5) : Mat 2048 1024) (rowOf (Cert.Ref.flat (images m c)) n)

/-- The reconstruction of image `n`, from the arguments. -/
def reconOf (n : Fin 4096) : Row 3072 :=
  three (m ((c.tc : Thread nD τ).loc main_arg7) : Mat 1024 2048) (m ((c.tc : Thread nD τ).loc main_arg9) : Mat 2048 2048)
    (m ((c.tc : Thread nD τ).loc main_arg11) : Mat 2048 3072) (codeOf m c n)

/-- The logits of image `n`, from the arguments. -/
def logitsOf (n : Fin 4096) : Row 10 :=
  two (m ((c.tc : Thread nD τ).loc main_arg13) : Mat 1024 2048) (m ((c.tc : Thread nD τ).loc main_arg15) : Mat 2048 10) (codeOf m c n)

/-- The reference's memory agrees with the kernel's on the arguments. -/
structure Agree : Prop where
  a0 : m' ((c.tc : Thread Cert.ReferenceIdeal.nD Cert.ReferenceIdeal.τ).loc Cert.ReferenceIdeal.main_arg0) = m ((c.tc : Thread nD τ).loc main_arg0)
  a1 : m' ((c.tc : Thread Cert.ReferenceIdeal.nD Cert.ReferenceIdeal.τ).loc Cert.ReferenceIdeal.main_arg1) = m ((c.tc : Thread nD τ).loc main_arg1)
  a2 : m' ((c.tc : Thread Cert.ReferenceIdeal.nD Cert.ReferenceIdeal.τ).loc Cert.ReferenceIdeal.main_arg2) = m ((c.tc : Thread nD τ).loc main_arg2)
  a3 : m' ((c.tc : Thread Cert.ReferenceIdeal.nD Cert.ReferenceIdeal.τ).loc Cert.ReferenceIdeal.main_arg3) = m ((c.tc : Thread nD τ).loc main_arg3)
  a4 : m' ((c.tc : Thread Cert.ReferenceIdeal.nD Cert.ReferenceIdeal.τ).loc Cert.ReferenceIdeal.main_arg4) = m ((c.tc : Thread nD τ).loc main_arg4)
  a5 : m' ((c.tc : Thread Cert.ReferenceIdeal.nD Cert.ReferenceIdeal.τ).loc Cert.ReferenceIdeal.main_arg5) = m ((c.tc : Thread nD τ).loc main_arg5)
  a6 : m' ((c.tc : Thread Cert.ReferenceIdeal.nD Cert.ReferenceIdeal.τ).loc Cert.ReferenceIdeal.main_arg6) = m ((c.tc : Thread nD τ).loc main_arg6)
  a7 : m' ((c.tc : Thread Cert.ReferenceIdeal.nD Cert.ReferenceIdeal.τ).loc Cert.ReferenceIdeal.main_arg7) = m ((c.tc : Thread nD τ).loc main_arg7)
  a8 : m' ((c.tc : Thread Cert.ReferenceIdeal.nD Cert.ReferenceIdeal.τ).loc Cert.ReferenceIdeal.main_arg8) = m ((c.tc : Thread nD τ).loc main_arg8)
  a9 : m' ((c.tc : Thread Cert.ReferenceIdeal.nD Cert.ReferenceIdeal.τ).loc Cert.ReferenceIdeal.main_arg9) = m ((c.tc : Thread nD τ).loc main_arg9)
  a10 : m' ((c.tc : Thread Cert.ReferenceIdeal.nD Cert.ReferenceIdeal.τ).loc Cert.ReferenceIdeal.main_arg10) = m ((c.tc : Thread nD τ).loc main_arg10)
  a11 : m' ((c.tc : Thread Cert.ReferenceIdeal.nD Cert.ReferenceIdeal.τ).loc Cert.ReferenceIdeal.main_arg11) = m ((c.tc : Thread nD τ).loc main_arg11)
  a12 : m' ((c.tc : Thread Cert.ReferenceIdeal.nD Cert.ReferenceIdeal.τ).loc Cert.ReferenceIdeal.main_arg12) = m ((c.tc : Thread nD τ).loc main_arg12)
  a13 : m' ((c.tc : Thread Cert.ReferenceIdeal.nD Cert.ReferenceIdeal.τ).loc Cert.ReferenceIdeal.main_arg13) = m ((c.tc : Thread nD τ).loc main_arg13)
  a14 : m' ((c.tc : Thread Cert.ReferenceIdeal.nD Cert.ReferenceIdeal.τ).loc Cert.ReferenceIdeal.main_arg14) = m ((c.tc : Thread nD τ).loc main_arg14)
  a15 : m' ((c.tc : Thread Cert.ReferenceIdeal.nD Cert.ReferenceIdeal.τ).loc Cert.ReferenceIdeal.main_arg15) = m ((c.tc : Thread nD τ).loc main_arg15)
  a16 : m' ((c.tc : Thread Cert.ReferenceIdeal.nD Cert.ReferenceIdeal.τ).loc Cert.ReferenceIdeal.main_arg16) = m ((c.tc : Thread nD τ).loc main_arg16)

/-- The kernel's latent codes are the arguments'. -/
theorem code_eq (n : Fin 4096) : Cert.Ker.code m c n = codeOf m c n := by
  unfold Cert.Ker.code
  rw [Cert.Ker.entry0, Cert.Ker.entry1, Cert.Ker.entry2, Cert.Ker.entry3]
  rfl

/-- The kernel's errors are the arguments'. -/
theorem errors_at (n : Fin 4096) : Cert.Ker.errors m c (ix1 n) =
    Ideal.div (gap (reconOf m c n) (rowOf (Cert.Ref.flat (images m c)) n)) (Ideal.ofBits .f32 0x45400000#32) := by
  show Ideal.div (gap (three (V m c main_v4 : Mat 1024 2048) (V m c main_v5 : Mat 2048 2048) (V m c main_v6 : Mat 2048 3072)
    (Cert.Ker.code m c n)) (rowOf (V m c main_v0 : Mat 4096 3072) n)) _ = _
  rw [code_eq, Cert.Ker.entry0, Cert.Ker.entry4, Cert.Ker.entry5, Cert.Ker.entry6]
  rfl

/-- The kernel's padded logits in their first ten columns are the arguments'. -/
theorem logits_at (n : Fin 4096) (j : Fin 10) :
    Cert.Ker.logits m c (ix2 n (⟨j.val, by omega⟩ : Fin 128)) = logitsOf m c n j := by
  show dense (V m c main_v11 : Mat 2048 128) (rect (dense (V m c main_v7 : Mat 1024 2048) (Cert.Ker.code m c n))) _ = _
  rw [code_eq, Cert.Ker.entry7]
  have hp : ∀ r : Row 2048, dense (V m c main_v11 : Mat 2048 128) r (⟨j.val, by omega⟩ : Fin 128) =
      dense (m ((c.tc : Thread nD τ).loc main_arg15) : Mat 2048 10) r j := fun r => by
    unfold dense
    exact Finset.sum_congr rfl fun l _ => congrArg (r l * ·) (Cert.Ker.entry11 m c l j)
  exact hp _

variable {m m' c}

/-- The reference's latent codes are the arguments'. -/
theorem latentAt_row (ha : Agree m m' c) (hb : Unbiased m c) (n : Fin 4096) : rowOf (Cert.Ref.latentAt m' c) n = codeOf m c n := by
  unfold Cert.Ref.latentAt
  rw [ha.a0, ha.a1, ha.a2, ha.a3, ha.a4, ha.a5, ha.a6]
  exact Cert.Ref.latent_row _ _ _ _ _ _ _ hb.enc1 hb.enc2 hb.enc3 n

/-- The reference's errors, before they are stacked. -/
def errsOf (m' : (ℓ : Loc Cert.ReferenceIdeal.nD Cert.ReferenceIdeal.τ Cert.ReferenceIdeal.sig) → Buf (Elt Ideal) ℓ) (c : Dev nD)
    (m : (ℓ : Loc nD τ sig) → Buf (Elt Ideal) ℓ) : Cert.Ref.Arr S4096 :=
  Cert.Ref.errs (Cert.Ref.recon (Cert.Ref.latentAt m' c) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))) (images m c)

/-- The reference's stacked errors are its errors, stacked. -/
theorem stackedAt_eq (ha : Agree m m' c) : Cert.Ref.stackedAt m' c = Cert.Ref.stacked (errsOf m' c m) := by
  unfold Cert.Ref.stackedAt
  rw [ha.a0, ha.a7, ha.a8, ha.a9, ha.a10, ha.a11, ha.a12]
  rfl

/-- The reference's reconstructions are the arguments'. -/
theorem reconAt_row (ha : Agree m m' c) (hb : Unbiased m c) (n : Fin 4096) :
    rowOf (Cert.Ref.recon (Cert.Ref.latentAt m' c) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12))) n = reconOf m c n := by
  rw [Cert.Ref.recon_row _ _ _ _ _ _ _ hb.dec1 hb.dec2 hb.dec3, latentAt_row ha hb]
  rfl

/-- Result 1: the logits. -/
theorem result1 (ha : Agree m m' c) (hb : Unbiased m c) :
    Cert.Ref.gated (Cert.Ref.mask (Cert.Ref.gate (Cert.Ref.stackedAt m' c))) (Cert.Ref.expertAt m' c) =
      extf .f32 (extractStridedSlice S4096x10 ![0, 0] (Cert.KernelIdeal.Value.reg_main_v12_0 m c) slices_S4096x128_S4096x10_0_0)
        bitsLt_bf16_f32 := by
  rw [Cert.Ref.gate_eq, Cert.Ref.mask_zero, Cert.Ref.gated_one]
  funext i
  idx_vars i
  have hl : Cert.Ref.expertAt m' c (ix2 i0 i1) = logitsOf m c i0 i1 := by
    unfold Cert.Ref.expertAt
    rw [ha.a13, ha.a14, ha.a15, ha.a16]
    refine (congrFun (Cert.Ref.expert_row _ _ _ _ _ hb.exp1 hb.exp2 i0) i1).trans ?_
    rw [latentAt_row ha hb]
    rfl
  rw [hl, ← logits_at]
  unfold Cert.KernelIdeal.Value.reg_main_v12_0
  rw [Cert.Ker.logits_eq]
  pointwise

/-- Result 2: the gate of every image. -/
theorem result2 : Cert.Ref.gate (Cert.Ref.stackedAt m' c) = broadcastInDim S4096 ![] bcast_S_S4096 (constantI S_ 32 0#32) := by
  rw [Cert.Ref.gate_eq]
  rfl

/-- Result 3: the least error of every image. -/
theorem result3 (ha : Agree m m' c) (hb : Unbiased m c) :
    Cert.Ref.least (Cert.Ref.stackedAt m' c) = Cert.KernelIdeal.Value.reg_main_v12_1 m c := by
  rw [stackedAt_eq ha, Cert.Ref.least_stacked]
  unfold Cert.KernelIdeal.Value.reg_main_v12_1
  rw [Cert.Ker.errors_eq]
  funext i
  idx_vars i
  rw [errors_at]
  unfold errsOf
  rw [Cert.Ref.errs_apply, reconAt_row ha hb]

/-- Result 4: the scores, for real images and weights. -/
theorem result4 (ha : Agree m m' c) (hb : Unbiased m c) (hr : Real m c) :
    Cert.Ref.scores (Cert.Ref.favoured (Cert.Ref.relevance (Cert.Ref.stackedAt m' c))) =
      broadcastInDim S1x4096 ![] bcast_S_S1x4096 (constant (F := Ideal) S_ .f32 0x3F800000#32) := by
  rw [Cert.Ref.scores_one]
  · funext i
    exact Ideal.ofBits_one_f32.symm
  · refine Cert.Ref.favoured_real _ fun i => ?_
    rw [stackedAt_eq ha]
    refine Cert.Ref.stacked_real _ (fun n => ?_) i
    refine Cert.Ref.errs_real _ _ n (fun k => ?_) hr.image
    rw [reconAt_row ha hb]
    refine three_real hr.dec1 hr.dec2 hr.dec3 (fun l => three_real hr.enc1 hr.enc2 hr.enc3 (fun q => ?_) l) k
    rw [show rowOf (Cert.Ref.flat (images m c)) n q = images m c (Cert.Ref.spot n q) from Cert.Ref.flat_apply _ n q]
    exact hr.image _

/-- Result 5: every image goes to the one gate. -/
theorem result5 : Cert.Ref.mask (Cert.Ref.gate (Cert.Ref.stackedAt m' c)) =
    broadcastInDim S1x4096 ![] bcast_S_S1x4096 (constantI S_ 1 1#1) := by
  rw [Cert.Ref.gate_eq, Cert.Ref.mask_zero]
  rfl

end Cert.Tie

end
-- ==== Proof.lean ====
/-
  The kernel's claims. Each program runs to its end without a fault and leaves every semaphore counter at zero; the
  kernel over the extended reals is the kernel itself; and from equal arguments it ends with the reference's results:
  the gates and the masks always, all but the scores when the biases are zero, and all five when the images and the weights of the encoder and the
  decoder are finite besides.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Run
public import proofs.«01_k».proof.Proof.Gen.ReferenceIdeal
public import proofs.«01_k».proof.Proof.Ref.Run
public import proofs.«01_k».proof.Proof.Tie.Results
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Tie

/-- The reference over the extended reals runs to its end, its arguments unchanged and its semaphore counters at zero. -/
theorem reference_frame : @Cert.quiescent_ReferenceIdeal Cert.ReferenceIdeal.Gen.facts := fun m g _ =>
  θ_run_mono (Cert.Ref.run m g) fun _ h => ⟨fun c => (h.1 c).2.2.2.2.2, h.2⟩

/-- The kernel's logits: the first ten columns of the padded ones. -/
abbrev logitsAt (m : (ℓ : Loc Cert.KernelIdeal.nD Cert.KernelIdeal.τ Cert.KernelIdeal.sig) → Buf (Elt Ideal) ℓ)
    (c : Dev Cert.KernelIdeal.nD) : FVec Ideal Cert.KernelIdeal.S4096x10 .f32 :=
  extf .f32 (extractStridedSlice Cert.KernelIdeal.S4096x10 ![0, 0] (Cert.KernelIdeal.Value.reg_main_v12_0 m c)
    Cert.KernelIdeal.Gen.slices_S4096x128_S4096x10_0_0) Cert.KernelIdeal.Gen.bitsLt_bf16_f32

/-- The kernel's gate of every image: number 0. -/
abbrev gates : IVec Cert.KernelIdeal.S4096 32 :=
  broadcastInDim Cert.KernelIdeal.S4096 ![] Cert.KernelIdeal.Gen.bcast_S_S4096 (constantI Cert.KernelIdeal.S_ 32 0#32)

/-- The kernel's scores: 1 everywhere. -/
abbrev ones : FVec Ideal Cert.KernelIdeal.S1x4096 .f32 :=
  broadcastInDim Cert.KernelIdeal.S1x4096 ![] Cert.KernelIdeal.Gen.bcast_S_S1x4096
    (constant (F := Ideal) Cert.KernelIdeal.S_ .f32 0x3F800000#32)

/-- The kernel's mask: set everywhere. -/
abbrev masks : IVec Cert.KernelIdeal.S1x4096 1 :=
  broadcastInDim Cert.KernelIdeal.S1x4096 ![] Cert.KernelIdeal.Gen.bcast_S_S1x4096 (constantI Cert.KernelIdeal.S_ 1 1#1)

/-- From any equal arguments, the kernel and the reference end with equal gates and masks. -/
theorem gate_and_mask : @Cert.algebraic_KernelIdeal_ReferenceIdeal_on_gate_and_mask
    Cert.KernelIdeal.Gen.facts Cert.ReferenceIdeal.Gen.facts facts_gate_and_mask := by
  intro m g m' g' _ _
  refine ⟨fun c => logitsAt m c, fun _ => gates, fun c => Cert.KernelIdeal.Value.reg_main_v12_1 m c, fun _ => ones, fun _ => masks,
    θ_run_mono (Cert.KernelIdeal.Value.run m g) fun r h c => ?_,
    θ_run_mono (Cert.Ref.run m' g') fun r h c => ?_⟩
  · obtain ⟨h1, h2, h3, h4, h5, hargs⟩ := h c
    exact ⟨fun i _ => congrFun h1 i, fun i _ => congrFun h2 i, fun i _ => congrFun h3 i, fun i _ => congrFun h4 i,
      fun i _ => congrFun h5 i, hargs⟩
  · obtain ⟨-, h2, -, -, h5, hargs⟩ := h.1 c
    have unset : ∀ {p : Prop}, (0#1 : BitVec 1) = 1#1 → p := fun hi => absurd hi (by decide)
    exact ⟨fun _ hi => unset hi, fun i _ => congrFun (h2.trans result2) i, fun _ hi => unset hi, fun _ hi => unset hi,
      fun i _ => congrFun (h5.trans result5) i, hargs⟩

/-- From equal arguments and zero biases, the kernel and the reference end with equal results on all but the scores. -/
theorem all_but_scores : @Cert.algebraic_KernelIdeal_ReferenceIdeal_on_all_but_scores_pre_no_biases
    Cert.KernelIdeal.Gen.facts Cert.ReferenceIdeal.Gen.facts facts_no_biases facts_all_but_scores := by
  intro m g m' g' hpre hagree
  have ha : ∀ c, Agree m m' c := fun c => by
    obtain ⟨a0, a1, a2, a3, a4, a5, a6, a7, a8, a9, a10, a11, a12, a13, a14, a15, a16⟩ := hagree c
    exact ⟨a0, a1, a2, a3, a4, a5, a6, a7, a8, a9, a10, a11, a12, a13, a14, a15, a16⟩
  have hb : ∀ c, Unbiased m c := @unbiased m facts_no_biases hpre
  refine ⟨fun c => logitsAt m c, fun _ => gates, fun c => Cert.KernelIdeal.Value.reg_main_v12_1 m c, fun _ => ones, fun _ => masks,
    θ_run_mono (Cert.KernelIdeal.Value.run m g) fun r h c => ?_,
    θ_run_mono (Cert.Ref.run m' g') fun r h c => ?_⟩
  · obtain ⟨h1, h2, h3, h4, h5, hargs⟩ := h c
    exact ⟨fun i _ => congrFun h1 i, fun i _ => congrFun h2 i, fun i _ => congrFun h3 i, fun i _ => congrFun h4 i,
      fun i _ => congrFun h5 i, hargs⟩
  · obtain ⟨h1, h2, h3, h4, h5, hargs⟩ := h.1 c
    exact ⟨fun i _ => congrFun (h1.trans (result1 (ha c) (hb c))) i, fun i _ => congrFun (h2.trans result2) i,
      fun i _ => congrFun (h3.trans (result3 (ha c) (hb c))) i, fun i hi => absurd (show (0#1 : BitVec 1) = 1#1 from hi) (by decide),
      fun i _ => congrFun (h5.trans result5) i, hargs⟩

/-- From equal arguments, zero biases and finite images and weights, the kernel and the reference end with equal results. -/
theorem all_results : @Cert.algebraic_KernelIdeal_ReferenceIdeal_pre_no_biases_and_finite
    Cert.KernelIdeal.Gen.facts Cert.ReferenceIdeal.Gen.facts facts_no_biases_and_finite := by
  intro m g m' g' hpre hagree
  have ha : ∀ c, Agree m m' c := fun c => by
    obtain ⟨a0, a1, a2, a3, a4, a5, a6, a7, a8, a9, a10, a11, a12, a13, a14, a15, a16⟩ := hagree c
    exact ⟨a0, a1, a2, a3, a4, a5, a6, a7, a8, a9, a10, a11, a12, a13, a14, a15, a16⟩
  have hb : ∀ c, Unbiased m c ∧ Real m c := @unbiased_real m facts_no_biases_and_finite hpre
  refine ⟨_, _, _, _, _, Cert.KernelIdeal.Value.run m g, θ_run_mono (Cert.Ref.run m' g') fun r h c => ?_⟩
  obtain ⟨h1, h2, h3, h4, h5, hargs⟩ := h.1 c
  exact ⟨h1.trans (result1 (ha c) (hb c).1), h2.trans result2, h3.trans (result3 (ha c) (hb c).1),
    h4.trans (result4 (ha c) (hb c).1 (hb c).2), h5.trans result5, hargs⟩

/-- The claims. -/
theorem claim : Cert.Claim :=
  ⟨Cert.Kernel.Gen.facts, Cert.KernelIdeal.Gen.facts, Cert.ReferenceIdeal.Gen.facts, facts_no_biases,
    facts_no_biases_and_finite, facts_gate_and_mask, facts_all_but_scores,
    fun m g _ => Cert.Kernel.Gen.frame m g,
    fun m g _ => Cert.KernelIdeal.Gen.frame m g,
    fun m g _ => Cert.KernelIdeal.Gen.frame m g,
    fun m g _ => Cert.KernelIdeal.Gen.frame m g,
    reference_frame,
    fun m g _ => reference_frame m g trivial,
    fun m g _ => reference_frame m g trivial,
    trivial, gate_and_mask, all_but_scores, all_results⟩

end Cert.Proof

end
